-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5888x5120 : Shape := ⟨2, ![5888, 5120]⟩
abbrev S5120x6144 : Shape := ⟨2, ![5120, 6144]⟩
abbrev S5888x64 : Shape := ⟨2, ![5888, 64]⟩
abbrev S5120 : Shape := ⟨1, ![5120]⟩
abbrev S_ : Shape := ⟨0, ![]⟩
abbrev S3 : Shape := ⟨1, ![3]⟩
abbrev S64x5888 : Shape := ⟨2, ![64, 5888]⟩
abbrev S1x5120 : Shape := ⟨2, ![1, 5120]⟩
abbrev S1 : Shape := ⟨1, ![1]⟩
abbrev S5888x8x128 : Shape := ⟨3, ![5888, 8, 128]⟩
abbrev S5888x1024 : Shape := ⟨2, ![5888, 1024]⟩
abbrev S256x5120 : Shape := ⟨2, ![256, 5120]⟩
abbrev S5120x2048 : Shape := ⟨2, ![5120, 2048]⟩
abbrev S64x256 : Shape := ⟨2, ![64, 256]⟩
abbrev S256x8x128 : Shape := ⟨3, ![256, 8, 128]⟩
abbrev S256x1024 : Shape := ⟨2, ![256, 1024]⟩
abbrev S32x5120 : Shape := ⟨2, ![32, 5120]⟩
abbrev S32 : Shape := ⟨1, ![32]⟩
abbrev S32x1 : Shape := ⟨2, ![32, 1]⟩
abbrev S128x256 : Shape := ⟨2, ![128, 256]⟩
abbrev S256x128 : Shape := ⟨2, ![256, 128]⟩
abbrev S5120x512 : Shape := ⟨2, ![5120, 512]⟩
abbrev S256x512 : Shape := ⟨2, ![256, 512]⟩
abbrev S256x1x128 : Shape := ⟨3, ![256, 1, 128]⟩

abbrev nBuf : Space → Nat
  | .hbm => 20
  | .vmem => 18
  | .smem => 4
  | _ => 0

abbrev bufTy : (tb : Table) → Fin (tcTables nBuf tb) → BufTy
  | .hbm, ⟨0, _⟩ => ⟨S5888x5120, .bf16⟩
  | .hbm, ⟨1, _⟩ => ⟨S5120x6144, .fp8e4m3⟩
  | .hbm, ⟨2, _⟩ => ⟨S5888x64, .f32⟩
  | .hbm, ⟨3, _⟩ => ⟨S5888x64, .f32⟩
  | .hbm, ⟨4, _⟩ => ⟨S5120, .f32⟩
  | .hbm, ⟨5, _⟩ => ⟨S_, .f32⟩
  | .hbm, ⟨6, _⟩ => ⟨S3, .f32⟩
  | .hbm, ⟨7, _⟩ => ⟨S_, .f32⟩
  | .hbm, ⟨8, _⟩ => ⟨S_, .f32⟩
  | .hbm, ⟨9, _⟩ => ⟨S64x5888, .f32⟩
  | .hbm, ⟨10, _⟩ => ⟨S64x5888, .f32⟩
  | .hbm, ⟨11, _⟩ => ⟨S1x5120, .f32⟩
  | .hbm, ⟨12, _⟩ => ⟨S1, .f32⟩
  | .hbm, ⟨13, _⟩ => ⟨S1, .f32⟩
  | .hbm, ⟨14, _⟩ => ⟨S1, .f32⟩
  | .hbm, ⟨15, _⟩ => ⟨S5888x5120, .fp8e4m3⟩
  | .hbm, ⟨16, _⟩ => ⟨S5888x8x128, .fp8e4m3⟩
  | .hbm, ⟨17, _⟩ => ⟨S5888x8x128, .fp8e4m3⟩
  | .hbm, ⟨18, _⟩ => ⟨S5888x1024, .fp8e4m3⟩
  | .hbm, ⟨19, _⟩ => ⟨S5888x1024, .fp8e4m3⟩
  | .local _ .vmem, ⟨0, _⟩ => ⟨S256x5120, .bf16⟩
  | .local _ .vmem, ⟨1, _⟩ => ⟨S256x5120, .bf16⟩
  | .local _ .vmem, ⟨2, _⟩ => ⟨S5120x2048, .fp8e4m3⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S1x5120, .f32⟩
  | .local _ .vmem, ⟨8, _⟩ => ⟨S256x5120, .fp8e4m3⟩
  | .local _ .vmem, ⟨9, _⟩ => ⟨S256x5120, .fp8e4m3⟩
  | .local _ .vmem, ⟨10, _⟩ => ⟨S256x8x128, .fp8e4m3⟩
  | .local _ .vmem, ⟨11, _⟩ => ⟨S256x8x128, .fp8e4m3⟩
  | .local _ .vmem, ⟨12, _⟩ => ⟨S256x8x128, .fp8e4m3⟩
  | .local _ .vmem, ⟨13, _⟩ => ⟨S256x8x128, .fp8e4m3⟩
  | .local _ .vmem, ⟨14, _⟩ => ⟨S256x1024, .fp8e4m3⟩
  | .local _ .vmem, ⟨15, _⟩ => ⟨S256x1024, .fp8e4m3⟩
  | .local _ .vmem, ⟨16, _⟩ => ⟨S256x1024, .fp8e4m3⟩
  | .local _ .vmem, ⟨17, _⟩ => ⟨S256x1024, .fp8e4m3⟩
  | .local _ .smem, ⟨0, _⟩ => ⟨S1, .f32⟩
  | .local _ .smem, ⟨1, _⟩ => ⟨S3, .f32⟩
  | .local _ .smem, ⟨2, _⟩ => ⟨S1, .f32⟩
  | .local _ .smem, ⟨3, _⟩ => ⟨S1, .f32⟩
  | _, _ => ⟨S5888x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg5_0 : Ref sig .tc := ⟨.smem, 0, rfl⟩
abbrev cc0_stg6_0 : Ref sig .tc := ⟨.smem, 1, rfl⟩
abbrev cc0_stg7_0 : Ref sig .tc := ⟨.smem, 2, rfl⟩
abbrev cc0_stg8_0 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![23], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x5120 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x8x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x8x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S5888x5120 : Shape := ⟨2, ![5888, 5120]⟩
abbrev S5120x6144 : Shape := ⟨2, ![5120, 6144]⟩
abbrev S5888x64 : Shape := ⟨2, ![5888, 64]⟩
abbrev S5120 : Shape := ⟨1, ![5120]⟩
abbrev S_ : Shape := ⟨0, ![]⟩
abbrev S3 : Shape := ⟨1, ![3]⟩
abbrev S1x5120 : Shape := ⟨2, ![1, 5120]⟩
abbrev S1 : Shape := ⟨1, ![1]⟩
abbrev S5888x8x128 : Shape := ⟨3, ![5888, 8, 128]⟩
abbrev S5888x1024 : Shape := ⟨2, ![5888, 1024]⟩
abbrev S5888 : Shape := ⟨1, ![5888]⟩
abbrev S5888x1 : Shape := ⟨2, ![5888, 1]⟩
abbrev S5120x2048 : Shape := ⟨2, ![5120, 2048]⟩
abbrev S5888x2048 : Shape := ⟨2, ![5888, 2048]⟩
abbrev S5888x1x64 : Shape := ⟨3, ![5888, 1, 64]⟩
abbrev S5888x8x64 : Shape := ⟨3, ![5888, 8, 64]⟩

abbrev nBuf : Space → Nat
  | .hbm => 18
  | .vmem => 10
  | .smem => 4
  | _ => 0

abbrev bufTy : (tb : Table) → Fin (tcTables nBuf tb) → BufTy
  | .hbm, ⟨0, _⟩ => ⟨S5888x5120, .bf16⟩
  | .hbm, ⟨1, _⟩ => ⟨S5120x6144, .fp8e4m3⟩
  | .hbm, ⟨2, _⟩ => ⟨S5888x64, .f32⟩
  | .hbm, ⟨3, _⟩ => ⟨S5888x64, .f32⟩
  | .hbm, ⟨4, _⟩ => ⟨S5120, .f32⟩
  | .hbm, ⟨5, _⟩ => ⟨S_, .f32⟩
  | .hbm, ⟨6, _⟩ => ⟨S3, .f32⟩
  | .hbm, ⟨7, _⟩ => ⟨S_, .f32⟩
  | .hbm, ⟨8, _⟩ => ⟨S_, .f32⟩
  | .hbm, ⟨9, _⟩ => ⟨S1x5120, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S5888x5120, .fp8e4m3⟩
  | .hbm, ⟨14, _⟩ => ⟨S5888x8x128, .fp8e4m3⟩
  | .hbm, ⟨15, _⟩ => ⟨S5888x8x128, .fp8e4m3⟩
  | .hbm, ⟨16, _⟩ => ⟨S5888x1024, .fp8e4m3⟩
  | .hbm, ⟨17, _⟩ => ⟨S5888x1024, .fp8e4m3⟩
  | .local _ .vmem, ⟨0, _⟩ => ⟨S5888x5120, .bf16⟩
  | .local _ .vmem, ⟨1, _⟩ => ⟨S5120x6144, .fp8e4m3⟩
  | .local _ .vmem, ⟨2, _⟩ => ⟨S5888x64, .f32⟩
  | .local _ .vmem, ⟨3, _⟩ => ⟨S5888x64, .f32⟩
  | .local _ .vmem, ⟨4, _⟩ => ⟨S1x5120, .f32⟩
  | .local _ .vmem, ⟨5, _⟩ => ⟨S5888x5120, .fp8e4m3⟩
  | .local _ .vmem, ⟨6, _⟩ => ⟨S5888x8x128, .fp8e4m3⟩
  | .local _ .vmem, ⟨7, _⟩ => ⟨S5888x8x128, .fp8e4m3⟩
  | .local _ .vmem, ⟨8, _⟩ => ⟨S5888x1024, .fp8e4m3⟩
  | .local _ .vmem, ⟨9, _⟩ => ⟨S5888x1024, .fp8e4m3⟩
  | .local _ .smem, ⟨0, _⟩ => ⟨S1, .f32⟩
  | .local _ .smem, ⟨1, _⟩ => ⟨S3, .f32⟩
  | .local _ .smem, ⟨2, _⟩ => ⟨S1, .f32⟩
  | .local _ .smem, ⟨3, _⟩ => ⟨S1, .f32⟩
  | _, _ => ⟨S5888x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg9_0 : Ref sig .tc := ⟨.vmem, 5, rfl⟩
abbrev cc0_stg10_0 : Ref sig .tc := ⟨.vmem, 6, rfl⟩
abbrev cc0_stg11_0 : Ref sig .tc := ⟨.vmem, 7, rfl⟩
abbrev cc0_stg12_0 : Ref sig .tc := ⟨.vmem, 8, rfl⟩
abbrev cc0_stg13_0 : Ref sig .tc := ⟨.vmem, 9, rfl⟩
abbrev cc0_stg5_0 : Ref sig .tc := ⟨.smem, 0, rfl⟩
abbrev cc0_stg6_0 : Ref sig .tc := ⟨.smem, 1, rfl⟩
abbrev cc0_stg7_0 : Ref sig .tc := ⟨.smem, 2, rfl⟩
abbrev cc0_stg8_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S5888x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5888x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5888x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5888x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5888x8x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5888x8x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5888x1024 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S5888x1024 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Spec.lean ====
module

public import Idealize.ShloMosaic.Lib.Pointwise

@[expose] public section

noncomputable section

namespace Cert.Spec

open Idealize.ShloMosaic

/-! The arithmetic of the two programs on plain extended real numbers, without arrays or blocks. -/

/-- A number limited to the finite range of the 8-bit format: at least -448, then at most 448. -/
def clip (v : EReal) : EReal := min (Ideal.ofBits .f32 0x43E00000#32) (max (Ideal.ofBits .f32 0xC3E00000#32) v)

/-- The code of entry `c` of one row: the row divided by its root mean square, times the weight, divided by the scale `s`, clipped. -/
def code (x ln : Fin 5120 → EReal) (s : EReal) (c : Fin 5120) : EReal :=
  clip (Ideal.div (Ideal.div (x c) (Ideal.sqrt (Ideal.div (∑ k, x k * x k) (Ideal.ofBits .f32 0x45A00000#32) + Ideal.ofBits .f32 0x3727C5AC#32)) * ln c) s)

/-- One entry of a projection: the row of codes `q` against the column `w`, times the scale of the codes and the scale of the weight. -/
def proj (q w : Fin 5120 → EReal) (sx sw : EReal) : EReal := (∑ k, q k * w k) * sx * sw

/-- The rotary embedding of one head: the lower half is `a * cos - b * sin`, the upper half `b * cos + a * sin`. -/
def rope (k : Fin 128 → EReal) (cos sin : Fin 64 → EReal) (l : Fin 128) : EReal :=
  if h : (l : ℕ) < 64 then k l * cos ⟨l, h⟩ - k ⟨l + 64, by omega⟩ * sin ⟨l, h⟩
  else k l * cos ⟨l - 64, by omega⟩ + k ⟨l - 64, by omega⟩ * sin ⟨l - 64, by omega⟩

/-- Lane `l` of one head of the keys: the projection onto the head's 128 columns `w`, rotated, divided by the scale `s`, clipped. -/
def keyCode (q : Fin 5120 → EReal) (w : Fin 128 → Fin 5120 → EReal) (cos sin : Fin 64 → EReal) (sx sw s : EReal) (l : Fin 128) : EReal :=
  clip (Ideal.div (rope (fun j => proj q (w j) sx sw) cos sin l) s)

/-- One lane of a head of the values: the projection onto the column `w`, divided by the scale `s`, clipped. -/
def valueCode (q w : Fin 5120 → EReal) (sx sw s : EReal) : EReal := clip (Ideal.div (proj q w sx sw) s)

/-- The rotary embedding in the form that turns the whole head by 64 lanes and multiplies it by a table whose lower half is the negated sine. -/
theorem rope_of_turn (k : Fin 128 → EReal) (cos sin : Fin 64 → EReal) (l : Fin 128) :
    (k l * (if h : (l : ℕ) < 64 then cos ⟨l, h⟩ else cos ⟨l - 64, by omega⟩)
      + k ⟨((l : ℕ) + 128 - 64) % 128, Nat.mod_lt _ (by decide)⟩ * (if h : (l : ℕ) < 64 then 0 - sin ⟨l, h⟩ else sin ⟨l - 64, by omega⟩))
    = rope k cos sin l := by
  unfold rope
  by_cases h : (l : ℕ) < 64
  · have e : (⟨((l : ℕ) + 128 - 64) % 128, Nat.mod_lt _ (by decide)⟩ : Fin 128) = ⟨l + 64, by omega⟩ := Fin.ext (by show ((l : ℕ) + 128 - 64) % 128 = l + 64; omega)
    rw [dif_pos h, dif_pos h, dif_pos h, e, zero_sub, mul_neg, sub_eq_add_neg]
  · have e : (⟨((l : ℕ) + 128 - 64) % 128, Nat.mod_lt _ (by decide)⟩ : Fin 128) = ⟨l - 64, by omega⟩ := Fin.ext (by show ((l : ℕ) + 128 - 64) % 128 = l - 64; omega)
    rw [dif_neg h, dif_neg h, dif_neg h, e]

end Cert.Spec

end
-- ==== Proof.Model.lean ====
module

public import proofs.«01_k».proof.Proof.Spec

@[expose] public section

noncomputable section

namespace Cert.Spec

/-! The key and value codes of the whole model: every row, head and lane, over the whole input tables. -/

/-- The key code of row `r`, head `h`, lane `l`: the row's codes against the head's columns of the weight, which start at column 4096, rotated, and quantised. -/
def keyAt (x : Fin 5888 → Fin 5120 → EReal) (ln : Fin 5120 → EReal) (w : Fin 5120 → Fin 6144 → EReal) (cos sin : Fin 5888 → Fin 64 → EReal)
    (sx : EReal) (sw : Fin 3 → EReal) (s : EReal) (r : Fin 5888) (h : Fin 8) (l : Fin 128) : EReal :=
  keyCode (code (x r) ln sx) (fun j k => w k ⟨4096 + (h * 128 + j), by omega⟩) (cos r) (sin r) sx (sw 1) s l

/-- The value code of row `r`, head `h`, lane `l`: the row's codes against the lane's column of the weight; the value columns start at 5120. -/
def valueAt (x : Fin 5888 → Fin 5120 → EReal) (ln : Fin 5120 → EReal) (w : Fin 5120 → Fin 6144 → EReal)
    (sx : EReal) (sw : Fin 3 → EReal) (s : EReal) (r : Fin 5888) (h : Fin 8) (l : Fin 128) : EReal :=
  valueCode (code (x r) ln sx) (fun k => w k ⟨5120 + (h * 128 + l), by omega⟩) sx (sw 2) s

end Cert.Spec

end
-- ==== Proof.Heads.lean ====
module

public import proofs.«01_k».proof.Proof.Gen.KernelIdeal.Skeleton
public import proofs.«01_k».proof.Proof.Spec

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec

/-! What the kernel's body computes for one head of the keys or the values, read at a row and a lane. -/

/-- Head 0 of the keys: the key code over the 128 columns from 0 of the chunk of columns. -/
theorem key0 (s1 sw s : EReal) (co si : FVec Ideal S64x256 .f32) (q : FVec Ideal S256x5120 .fp8e4m3) (w : FVec Ideal S5120x512 .fp8e4m3) (r : Fin 256) (l : Fin 128) :
    k0_pay22 (F := Ideal) s1 sw s co si q w (ix2 r l)
      = keyCode (fun k => q (ix2 r k)) (fun j k => w (ix2 k ⟨j, by omega⟩)) (fun j => co (ix2 j r)) (fun j => si (ix2 j r)) s1 sw s l := by
  pointwise [k0_pay22, k0_pay21, k0_pay20, k0_pay19]
  exact congrArg (fun v => clip (Ideal.div v s)) (rope_of_turn (fun j => proj (fun k => q (ix2 r k)) (fun k => w (ix2 k ⟨j, by omega⟩)) s1 sw) (fun j => co (ix2 j r)) (fun j => si (ix2 j r)) l)

/-- Head 1 of the keys: the key code over the 128 columns from 128 of the chunk of columns. -/
theorem key1 (s1 sw s : EReal) (co si : FVec Ideal S64x256 .f32) (q : FVec Ideal S256x5120 .fp8e4m3) (w : FVec Ideal S5120x512 .fp8e4m3) (r : Fin 256) (l : Fin 128) :
    k0_pay24 (F := Ideal) (k0_pay23 s1 sw s co si q w) (Scalar.ofBits (F := Ideal) .f32 0xC3E00000#32) (Scalar.ofBits (F := Ideal) .f32 0x43E00000#32) (ix2 r l)
      = keyCode (fun k => q (ix2 r k)) (fun j k => w (ix2 k ⟨128 + j, by omega⟩)) (fun j => co (ix2 j r)) (fun j => si (ix2 j r)) s1 sw s l := by
  pointwise [k0_pay24, k0_pay23, k0_pay21, k0_pay20, k0_pay19]
  exact congrArg (fun v => clip (Ideal.div v s)) (rope_of_turn (fun j => proj (fun k => q (ix2 r k)) (fun k => w (ix2 k ⟨128 + j, by omega⟩)) s1 sw) (fun j => co (ix2 j r)) (fun j => si (ix2 j r)) l)

/-- Head 2 of the keys: the key code over the 128 columns from 256 of the chunk of columns. -/
theorem key2 (s1 sw s : EReal) (co si : FVec Ideal S64x256 .f32) (q : FVec Ideal S256x5120 .fp8e4m3) (w : FVec Ideal S5120x512 .fp8e4m3) (r : Fin 256) (l : Fin 128) :
    k0_pay25 (F := Ideal) s1 sw s (k0_pay19 co) (k0_pay20 si) (k0_pay21 q w) (ix2 r l)
      = keyCode (fun k => q (ix2 r k)) (fun j k => w (ix2 k ⟨256 + j, by omega⟩)) (fun j => co (ix2 j r)) (fun j => si (ix2 j r)) s1 sw s l := by
  pointwise [k0_pay25, k0_pay21, k0_pay20, k0_pay19]
  exact congrArg (fun v => clip (Ideal.div v s)) (rope_of_turn (fun j => proj (fun k => q (ix2 r k)) (fun k => w (ix2 k ⟨256 + j, by omega⟩)) s1 sw) (fun j => co (ix2 j r)) (fun j => si (ix2 j r)) l)

/-- Head 3 of the keys: the key code over the 128 columns from 384 of the chunk of columns. -/
theorem key3 (s1 sw s : EReal) (co si : FVec Ideal S64x256 .f32) (q : FVec Ideal S256x5120 .fp8e4m3) (w : FVec Ideal S5120x512 .fp8e4m3) (r : Fin 256) (l : Fin 128) :
    k0_pay26 (F := Ideal) s1 sw s (k0_pay19 co) (k0_pay20 si) (k0_pay21 q w) (ix2 r l)
      = keyCode (fun k => q (ix2 r k)) (fun j k => w (ix2 k ⟨384 + j, by omega⟩)) (fun j => co (ix2 j r)) (fun j => si (ix2 j r)) s1 sw s l := by
  pointwise [k0_pay26, k0_pay21, k0_pay20, k0_pay19]
  exact congrArg (fun v => clip (Ideal.div v s)) (rope_of_turn (fun j => proj (fun k => q (ix2 r k)) (fun k => w (ix2 k ⟨384 + j, by omega⟩)) s1 sw) (fun j => co (ix2 j r)) (fun j => si (ix2 j r)) l)

/-- Head 4 of the keys: the key code over the 128 columns from 0 of the chunk of columns. -/
theorem key4 (s1 sw s : EReal) (co si : FVec Ideal S64x256 .f32) (q : FVec Ideal S256x5120 .fp8e4m3) (w : FVec Ideal S5120x512 .fp8e4m3) (r : Fin 256) (l : Fin 128) :
    k0_pay29 (F := Ideal) s1 sw s (k0_pay19 co) (k0_pay20 si) (k0_pay27 q) w (ix2 r l)
      = keyCode (fun k => q (ix2 r k)) (fun j k => w (ix2 k ⟨j, by omega⟩)) (fun j => co (ix2 j r)) (fun j => si (ix2 j r)) s1 sw s l := by
  pointwise [k0_pay29, k0_pay28, k0_pay27, k0_pay20, k0_pay19]
  exact congrArg (fun v => clip (Ideal.div v s)) (rope_of_turn (fun j => proj (fun k => q (ix2 r k)) (fun k => w (ix2 k ⟨j, by omega⟩)) s1 sw) (fun j => co (ix2 j r)) (fun j => si (ix2 j r)) l)

/-- Head 5 of the keys: the key code over the 128 columns from 128 of the chunk of columns. -/
theorem key5 (s1 sw s : EReal) (co si : FVec Ideal S64x256 .f32) (q : FVec Ideal S256x5120 .fp8e4m3) (w : FVec Ideal S5120x512 .fp8e4m3) (r : Fin 256) (l : Fin 128) :
    k0_pay30 (F := Ideal) s1 sw s (k0_pay19 co) (k0_pay20 si) (k0_pay27 q) w (ix2 r l)
      = keyCode (fun k => q (ix2 r k)) (fun j k => w (ix2 k ⟨128 + j, by omega⟩)) (fun j => co (ix2 j r)) (fun j => si (ix2 j r)) s1 sw s l := by
  pointwise [k0_pay30, k0_pay28, k0_pay27, k0_pay20, k0_pay19]
  exact congrArg (fun v => clip (Ideal.div v s)) (rope_of_turn (fun j => proj (fun k => q (ix2 r k)) (fun k => w (ix2 k ⟨128 + j, by omega⟩)) s1 sw) (fun j => co (ix2 j r)) (fun j => si (ix2 j r)) l)

/-- Head 6 of the keys: the key code over the 128 columns from 256 of the chunk of columns. -/
theorem key6 (s1 sw s : EReal) (co si : FVec Ideal S64x256 .f32) (q : FVec Ideal S256x5120 .fp8e4m3) (w : FVec Ideal S5120x512 .fp8e4m3) (r : Fin 256) (l : Fin 128) :
    k0_pay32 (F := Ideal) s (k0_pay31 s1 sw (k0_pay19 co) (k0_pay20 si) (k0_pay27 q) w) (ix2 r l)
      = keyCode (fun k => q (ix2 r k)) (fun j k => w (ix2 k ⟨256 + j, by omega⟩)) (fun j => co (ix2 j r)) (fun j => si (ix2 j r)) s1 sw s l := by
  pointwise [k0_pay32, k0_pay31, k0_pay28, k0_pay27, k0_pay20, k0_pay19]
  exact congrArg (fun v => clip (Ideal.div v s)) (rope_of_turn (fun j => proj (fun k => q (ix2 r k)) (fun k => w (ix2 k ⟨256 + j, by omega⟩)) s1 sw) (fun j => co (ix2 j r)) (fun j => si (ix2 j r)) l)

/-- Head 7 of the keys: the key code over the 128 columns from 384 of the chunk of columns. -/
theorem key7 (s1 sw s : EReal) (co si : FVec Ideal S64x256 .f32) (q : FVec Ideal S256x5120 .fp8e4m3) (w : FVec Ideal S5120x512 .fp8e4m3) (r : Fin 256) (l : Fin 128) :
    k0_pay33 (F := Ideal) s1 sw s (k0_pay19 co) (k0_pay20 si) (k0_pay28 (k0_pay27 q) w) (ix2 r l)
      = keyCode (fun k => q (ix2 r k)) (fun j k => w (ix2 k ⟨384 + j, by omega⟩)) (fun j => co (ix2 j r)) (fun j => si (ix2 j r)) s1 sw s l := by
  pointwise [k0_pay33, k0_pay28, k0_pay27, k0_pay20, k0_pay19]
  exact congrArg (fun v => clip (Ideal.div v s)) (rope_of_turn (fun j => proj (fun k => q (ix2 r k)) (fun k => w (ix2 k ⟨384 + j, by omega⟩)) s1 sw) (fun j => co (ix2 j r)) (fun j => si (ix2 j r)) l)

/-- Head 0 of the values: the value code over column 0 + l of the chunk of columns. -/
theorem value0 (s1 sw s : EReal) (q : FVec Ideal S256x5120 .fp8e4m3) (w : FVec Ideal S5120x512 .fp8e4m3) (r : Fin 256) (l : Fin 128) :
    k0_pay35 (F := Ideal) s1 sw s q w (ix2 r l) = valueCode (fun k => q (ix2 r k)) (fun k => w (ix2 k ⟨l, by omega⟩)) s1 sw s := by
  pointwise [k0_pay35, k0_pay34]
  rfl

/-- Head 1 of the values: the value code over column 128 + l of the chunk of columns. -/
theorem value1 (s1 sw s : EReal) (q : FVec Ideal S256x5120 .fp8e4m3) (w : FVec Ideal S5120x512 .fp8e4m3) (r : Fin 256) (l : Fin 128) :
    k0_pay36 (F := Ideal) s1 sw s (k0_pay34 q w) (ix2 r l) = valueCode (fun k => q (ix2 r k)) (fun k => w (ix2 k ⟨128 + l, by omega⟩)) s1 sw s := by
  pointwise [k0_pay36, k0_pay34]
  rfl

/-- Head 2 of the values: the value code over column 256 + l of the chunk of columns. -/
theorem value2 (s1 sw s : EReal) (q : FVec Ideal S256x5120 .fp8e4m3) (w : FVec Ideal S5120x512 .fp8e4m3) (r : Fin 256) (l : Fin 128) :
    k0_pay37 (F := Ideal) s1 sw s (k0_pay34 q w) (ix2 r l) = valueCode (fun k => q (ix2 r k)) (fun k => w (ix2 k ⟨256 + l, by omega⟩)) s1 sw s := by
  pointwise [k0_pay37, k0_pay34]
  rfl

/-- Head 3 of the values: the value code over column 384 + l of the chunk of columns. -/
theorem value3 (s1 sw s : EReal) (q : FVec Ideal S256x5120 .fp8e4m3) (w : FVec Ideal S5120x512 .fp8e4m3) (r : Fin 256) (l : Fin 128) :
    k0_pay38 (F := Ideal) s1 sw s (k0_pay34 q w) (ix2 r l) = valueCode (fun k => q (ix2 r k)) (fun k => w (ix2 k ⟨384 + l, by omega⟩)) s1 sw s := by
  pointwise [k0_pay38, k0_pay34]
  rfl

/-- Head 4 of the values: the value code over column 0 + l of the chunk of columns. -/
theorem value4 (s1 sw s : EReal) (q : FVec Ideal S256x5120 .fp8e4m3) (w : FVec Ideal S5120x512 .fp8e4m3) (r : Fin 256) (l : Fin 128) :
    k0_pay40 (F := Ideal) s1 sw s q w (ix2 r l) = valueCode (fun k => q (ix2 r k)) (fun k => w (ix2 k ⟨l, by omega⟩)) s1 sw s := by
  pointwise [k0_pay40, k0_pay39]
  rfl

/-- Head 5 of the values: the value code over column 128 + l of the chunk of columns. -/
theorem value5 (s1 sw s : EReal) (q : FVec Ideal S256x5120 .fp8e4m3) (w : FVec Ideal S5120x512 .fp8e4m3) (r : Fin 256) (l : Fin 128) :
    k0_pay41 (F := Ideal) s1 sw s q w (ix2 r l) = valueCode (fun k => q (ix2 r k)) (fun k => w (ix2 k ⟨128 + l, by omega⟩)) s1 sw s := by
  pointwise [k0_pay41, k0_pay39]
  rfl

/-- Head 6 of the values: the value code over column 256 + l of the chunk of columns. -/
theorem value6 (s1 sw s : EReal) (q : FVec Ideal S256x5120 .fp8e4m3) (w : FVec Ideal S5120x512 .fp8e4m3) (r : Fin 256) (l : Fin 128) :
    k0_pay42 (F := Ideal) s1 sw s q w (ix2 r l) = valueCode (fun k => q (ix2 r k)) (fun k => w (ix2 k ⟨256 + l, by omega⟩)) s1 sw s := by
  pointwise [k0_pay42, k0_pay39]
  rfl

/-- Head 7 of the values: the value code over column 384 + l of the chunk of columns. -/
theorem value7 (s1 sw s : EReal) (q : FVec Ideal S256x5120 .fp8e4m3) (w : FVec Ideal S5120x512 .fp8e4m3) (r : Fin 256) (l : Fin 128) :
    k0_pay1 (F := Ideal) s1 sw s (k0_pay39 q w) (ix2 r l) = valueCode (fun k => q (ix2 r k)) (fun k => w (ix2 k ⟨384 + l, by omega⟩)) s1 sw s := by
  pointwise [k0_pay1, k0_pay39]
  rfl

end Cert.KernelIdeal.Value

end
-- ==== Proof.Rows.lean ====
module

public import proofs.«01_k».proof.Proof.Gen.KernelIdeal.Frame
public import Idealize.ShloMosaic.Lib.Pipeline.ValueKit
public import Idealize.ShloMosaic.Lib.Pipeline.ReadBack
public import proofs.«01_k».proof.Proof.Heads

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec

/-! What one block of 256 rows leaves in the first output: the codes of its rows. -/

/-- Pieces that are blocks of `G` and cover the buffer leave `G` in it. -/
theorem canon_eq_of_piecesOf {s : Shape} {e : EltTy} {Val : EltTy → Type} [∀ e, Nonempty (Val e)] (G : s.Idx → Val e) (L : List (View.Piece Val s e))
    (h : View.PiecesOf G L) (hc : ∀ y, ∃ p ∈ L, y ∈ p.1.set) : View.canon L = G := by
  funext y
  have := View.canon_append_of_piecesOf G [] L h y (hc y)
  rwa [List.append_nil] at this

/-- A load after stores that leave `G` in the buffer reads `G`. -/
theorem readCov_eq_of_canon {sig : RefSig} {κ : Kind} {sp : Space} {s : Shape} {e : EltTy} {Val : EltTy → Type} [∀ e, Nonempty (Val e)]
    {G : s.Idx → Val e} {L : List (View.Piece Val s e)} (h : View.canon L = G) (v : View sig κ sp s e) (r : Rect s) : v.readCov L r.toLoadRect = View.ld G r := by
  rw [View.readCov_eq_canon', h]

/-- The codes of a block of 256 rows `x`, normalised, with the weight `ln` and the scale `s`. -/
def codes (x : FVec Ideal S256x5120 .bf16) (ln : FVec Ideal S1x5120 .f32) (s : FVec Ideal S1 .f32) : FVec Ideal S256x5120 .fp8e4m3 :=
  fun y => code (fun k => x (ix2 (y 0) k)) (fun k => ln (ix2 0 k)) (s (ix1 0)) (y 1)

variable (c : Dev nD) (i : grid0.Coords)
variable (arg1 : Memref sig .tc .vmem S256x5120 .bf16) (harg1 : arg1.IsWhole) (arg2 : Memref sig .tc .vmem S5120x2048 .fp8e4m3) (harg2 : arg2.IsWhole)
variable (arg3 : Memref sig .tc .vmem S64x256 .f32) (harg3 : arg3.IsWhole) (arg4 : Memref sig .tc .vmem S64x256 .f32) (harg4 : arg4.IsWhole)
variable (arg5 : Memref sig .tc .vmem S1x5120 .f32) (harg5 : arg5.IsWhole) (arg6 : Memref sig .tc .smem S1 .f32) (harg6 : arg6.IsWhole)
variable (arg7 : Memref sig .tc .smem S3 .f32) (harg7 : arg7.IsWhole) (arg8 : Memref sig .tc .smem S1 .f32) (harg8 : arg8.IsWhole)
variable (arg9 : Memref sig .tc .smem S1 .f32) (harg9 : arg9.IsWhole) (arg10 : Memref sig .tc .vmem S256x5120 .fp8e4m3) (harg10 : arg10.IsWhole)
variable (arg11 : Memref sig .tc .vmem S256x8x128 .fp8e4m3) (harg11 : arg11.IsWhole) (arg12 : Memref sig .tc .vmem S256x8x128 .fp8e4m3) (harg12 : arg12.IsWhole)
variable (arg13 : Memref sig .tc .vmem S256x1024 .fp8e4m3) (harg13 : arg13.IsWhole) (arg14 : Memref sig .tc .vmem S256x1024 .fp8e4m3) (harg14 : arg14.IsWhole)
variable (x0 : FVec Ideal S256x5120 .bf16) (x1 : FVec Ideal S5120x2048 .fp8e4m3) (x2 : FVec Ideal S64x256 .f32) (x3 : FVec Ideal S64x256 .f32) (x4 : FVec Ideal S1x5120 .f32)
variable (x5 : FVec Ideal S1 .f32) (x6 : FVec Ideal S3 .f32) (x7 : FVec Ideal S1 .f32) (x8 : FVec Ideal S1 .f32)

/-- The body's eight stores of 32 rows leave the codes of the block's rows in the first output's buffer. -/
theorem out9 : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = codes x0 x4 x5 := by
  frame_out
  refine canon_eq_of_piecesOf _ _ ⟨?_, ?_, ?_, ?_, ?_, ?_, ?_, ?_, trivial⟩ (View.cover_of_tiledL _ S32x5120.size (by sl_kernel_rfl))
  all_goals
    intro (x : S32x5120.Idx)
    dsimp only
    pointwise [k0_pay4, k0_pay5, k0_pay6, k0_pay7, k0_pay8, k0_pay9, k0_pay10, k0_pay11, k0_pay12, k0_pay13, k0_pay14, k0_pay15, k0_pay16, k0_pay17, k0_pay18, codes, code, clip]
    blk_point []

end Cert.KernelIdeal.Value

end
-- ==== Proof.Keys.lean ====
module

public import proofs.«01_k».proof.Proof.Rows

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec

/-! What one block of 256 rows leaves in the outputs for the keys. -/

/-- The keys' codes of a block: head `h`, lane `l` of row `r`, from the codes `q` of the rows, the 2048 columns `w`, the tables and the scales. -/
def keys (q : FVec Ideal S256x5120 .fp8e4m3) (w : FVec Ideal S5120x2048 .fp8e4m3) (co si : FVec Ideal S64x256 .f32) (sx : FVec Ideal S1 .f32) (sw : FVec Ideal S3 .f32)
    (s : FVec Ideal S1 .f32) (r : Fin 256) (h : Fin 8) (l : Fin 128) : EReal :=
  keyCode (fun k => q (ix2 r k)) (fun (j : Fin 128) k => w (ix2 k ⟨h * 128 + j, by omega⟩)) (fun j => co (ix2 j r)) (fun j => si (ix2 j r)) (sx (ix1 0)) (sw (ix1 1)) (s (ix1 0)) l

/-- A head's key codes over columns `W` that are the head's columns of the block are the block's key codes there. -/
theorem keys_of (q : FVec Ideal S256x5120 .fp8e4m3) (w : FVec Ideal S5120x2048 .fp8e4m3) (co si : FVec Ideal S64x256 .f32) (sx : FVec Ideal S1 .f32) (sw : FVec Ideal S3 .f32)
    (s : FVec Ideal S1 .f32) (W : Fin 128 → Fin 5120 → EReal) (a b d : EReal) (r r' : Fin 256) (h h' : Fin 8) (l l' : Fin 128)
    (hr : (r' : ℕ) = r) (hh : (h' : ℕ) = h) (hl : (l' : ℕ) = l) (hW : ∀ (j : Fin 128) k, W j k = w (ix2 k ⟨h * 128 + j, by omega⟩)) (ha : a = sx (ix1 0)) (hb : b = sw (ix1 1)) (hd : d = s (ix1 0)) :
    keyCode (fun k => q (ix2 r k)) W (fun j => co (ix2 j r)) (fun j => si (ix2 j r)) a b d l = keys q w co si sx sw s r' h' l' := by
  obtain rfl := Fin.ext hr
  obtain rfl := Fin.ext hh
  obtain rfl := Fin.ext hl
  obtain rfl : W = fun (j : Fin 128) k => w (ix2 k ⟨h' * 128 + j, by omega⟩) := funext fun j => funext fun k => hW j k
  rw [ha, hb, hd]; rfl

variable (c : Dev nD) (i : grid0.Coords)
variable (arg1 : Memref sig .tc .vmem S256x5120 .bf16) (harg1 : arg1.IsWhole) (arg2 : Memref sig .tc .vmem S5120x2048 .fp8e4m3) (harg2 : arg2.IsWhole)
variable (arg3 : Memref sig .tc .vmem S64x256 .f32) (harg3 : arg3.IsWhole) (arg4 : Memref sig .tc .vmem S64x256 .f32) (harg4 : arg4.IsWhole)
variable (arg5 : Memref sig .tc .vmem S1x5120 .f32) (harg5 : arg5.IsWhole) (arg6 : Memref sig .tc .smem S1 .f32) (harg6 : arg6.IsWhole)
variable (arg7 : Memref sig .tc .smem S3 .f32) (harg7 : arg7.IsWhole) (arg8 : Memref sig .tc .smem S1 .f32) (harg8 : arg8.IsWhole)
variable (arg9 : Memref sig .tc .smem S1 .f32) (harg9 : arg9.IsWhole) (arg10 : Memref sig .tc .vmem S256x5120 .fp8e4m3) (harg10 : arg10.IsWhole)
variable (arg11 : Memref sig .tc .vmem S256x8x128 .fp8e4m3) (harg11 : arg11.IsWhole) (arg12 : Memref sig .tc .vmem S256x8x128 .fp8e4m3) (harg12 : arg12.IsWhole)
variable (arg13 : Memref sig .tc .vmem S256x1024 .fp8e4m3) (harg13 : arg13.IsWhole) (arg14 : Memref sig .tc .vmem S256x1024 .fp8e4m3) (harg14 : arg14.IsWhole)
variable (x0 : FVec Ideal S256x5120 .bf16) (x1 : FVec Ideal S5120x2048 .fp8e4m3) (x2 : FVec Ideal S64x256 .f32) (x3 : FVec Ideal S64x256 .f32) (x4 : FVec Ideal S1x5120 .f32)
variable (x5 : FVec Ideal S1 .f32) (x6 : FVec Ideal S3 .f32) (x7 : FVec Ideal S1 .f32) (x8 : FVec Ideal S1 .f32)

/-- The body's eight stores of 128 lanes leave the keys' codes, all heads side by side, in the fourth output's buffer. -/
theorem out12 : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = fun y : S256x1024.Idx =>
    keys (codes x0 x4 x5) x1 x2 x3 x5 x6 x7 (y 0) ⟨y 1 / 128, Nat.div_lt_of_lt_mul (y 1).isLt⟩ ⟨y 1 % 128, Nat.mod_lt _ (by decide)⟩ := by
  have e := out9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
  frame_open at e
  rw [View.read_writes_junk_eq_canon] at e
  frame_open
  rw [readCov_eq_of_canon e]
  clear e
  frame_out
  generalize codes x0 x4 x5 = q
  funext y
  canon_tiles x h
  case piece0 =>
    rw [eq_ix2 x]
    refine (key7 _ _ _ _ _ _ _ (x 0) (x 1)).trans (keys_of _ _ _ _ _ _ _ _ _ _ _ _ _ 7 _ (x 1) _ ?_ ?_ ?_ ?_ ?_ ?_ ?_)
    · exact h0
    · show (y 1 : ℕ) / 128 = 7; omega
    · show (y 1 : ℕ) % 128 = x 1; omega
    · intros; pointwise []; try blk_ext []
    all_goals (pointwise []; try rfl)
  case piece1 =>
    rw [eq_ix2 x]
    refine (key6 _ _ _ _ _ _ _ (x 0) (x 1)).trans (keys_of _ _ _ _ _ _ _ _ _ _ _ _ _ 6 _ (x 1) _ ?_ ?_ ?_ ?_ ?_ ?_ ?_)
    · exact h0
    · show (y 1 : ℕ) / 128 = 6; omega
    · show (y 1 : ℕ) % 128 = x 1; omega
    · intros; pointwise []; try blk_ext []
    all_goals (pointwise []; try rfl)
  case piece2 =>
    rw [eq_ix2 x]
    refine (key5 _ _ _ _ _ _ _ (x 0) (x 1)).trans (keys_of _ _ _ _ _ _ _ _ _ _ _ _ _ 5 _ (x 1) _ ?_ ?_ ?_ ?_ ?_ ?_ ?_)
    · exact h0
    · show (y 1 : ℕ) / 128 = 5; omega
    · show (y 1 : ℕ) % 128 = x 1; omega
    · intros; pointwise []; try blk_ext []
    all_goals (pointwise []; try rfl)
  case piece3 =>
    rw [eq_ix2 x]
    refine (key4 _ _ _ _ _ _ _ (x 0) (x 1)).trans (keys_of _ _ _ _ _ _ _ _ _ _ _ _ _ 4 _ (x 1) _ ?_ ?_ ?_ ?_ ?_ ?_ ?_)
    · exact h0
    · show (y 1 : ℕ) / 128 = 4; omega
    · show (y 1 : ℕ) % 128 = x 1; omega
    · intros; pointwise []; try blk_ext []
    all_goals (pointwise []; try rfl)
  case piece4 =>
    rw [eq_ix2 x]
    refine (key3 _ _ _ _ _ _ _ (x 0) (x 1)).trans (keys_of _ _ _ _ _ _ _ _ _ _ _ _ _ 3 _ (x 1) _ ?_ ?_ ?_ ?_ ?_ ?_ ?_)
    · exact h0
    · show (y 1 : ℕ) / 128 = 3; omega
    · show (y 1 : ℕ) % 128 = x 1; omega
    · intros; pointwise []; try blk_ext []
    all_goals (pointwise []; try rfl)
  case piece5 =>
    rw [eq_ix2 x]
    refine (key2 _ _ _ _ _ _ _ (x 0) (x 1)).trans (keys_of _ _ _ _ _ _ _ _ _ _ _ _ _ 2 _ (x 1) _ ?_ ?_ ?_ ?_ ?_ ?_ ?_)
    · exact h0
    · show (y 1 : ℕ) / 128 = 2; omega
    · show (y 1 : ℕ) % 128 = x 1; omega
    · intros; pointwise []; try blk_ext []
    all_goals (pointwise []; try rfl)
  case piece6 =>
    rw [eq_ix2 x]
    refine (key1 _ _ _ _ _ _ _ (x 0) (x 1)).trans (keys_of _ _ _ _ _ _ _ _ _ _ _ _ _ 1 _ (x 1) _ ?_ ?_ ?_ ?_ ?_ ?_ ?_)
    · exact h0
    · show (y 1 : ℕ) / 128 = 1; omega
    · show (y 1 : ℕ) % 128 = x 1; omega
    · intros; pointwise []; try blk_ext []
    all_goals (pointwise []; try rfl)
  case piece7 =>
    rw [eq_ix2 x]
    refine (key0 _ _ _ _ _ _ _ (x 0) (x 1)).trans (keys_of _ _ _ _ _ _ _ _ _ _ _ _ _ 0 _ (x 1) _ ?_ ?_ ?_ ?_ ?_ ?_ ?_)
    · exact h0
    · show (y 1 : ℕ) / 128 = 0; omega
    · show (y 1 : ℕ) % 128 = x 1; omega
    · intros; pointwise []; try blk_ext []
    all_goals (pointwise []; try rfl)

/-- The eight heads stacked, read at a row, a head and a lane. -/
theorem stack_at (a0 a1 a2 a3 a4 a5 a6 a7 : FVec Ideal S256x128 .fp8e4m3) (r : Fin 256) (h : Fin 8) (l : Fin 128) :
    k0_pay2 (F := Ideal) a0 a1 a2 a3 a4 a5 a6 a7 (ix3 r h l) = (![a0, a1, a2, a3, a4, a5, a6, a7] h) (ix2 r l) := by
  pointwise [k0_pay2]
  fin_vals h with hk
  all_goals
    obtain rfl : h = Fin.mk _ (by decide) := Fin.ext hk
    rfl

/-- The body's one store of a whole block leaves the keys' codes, head by head, in the second output's buffer. -/
theorem out10 : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = fun y : S256x8x128.Idx => keys (codes x0 x4 x5) x1 x2 x3 x5 x6 x7 (y 0) (y 1) (y 2) := by
  have e := out9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
  frame_open at e
  rw [View.read_writes_junk_eq_canon] at e
  frame_open
  rw [readCov_eq_of_canon e]
  clear e
  frame_out
  generalize codes x0 x4 x5 = q
  funext y
  obtain ⟨r, h, l, rfl⟩ : ∃ r h l, y = ix3 r h l := ⟨y 0, y 1, y 2, eq_ix3 y⟩
  refine (stack_at _ _ _ _ _ _ _ _ r h l).trans ?_
  change _ = keys q x1 x2 x3 x5 x6 x7 r h l
  fin_cases h
  · refine (key0 _ _ _ _ _ _ _ r l).trans (keys_of _ _ _ _ _ _ _ _ _ _ _ _ _ 0 _ l _ ?_ ?_ ?_ ?_ ?_ ?_ ?_)
    iterate 3 rfl
    · intros; pointwise []; try blk_ext []
    all_goals (pointwise []; try rfl)
  · refine (key1 _ _ _ _ _ _ _ r l).trans (keys_of _ _ _ _ _ _ _ _ _ _ _ _ _ 1 _ l _ ?_ ?_ ?_ ?_ ?_ ?_ ?_)
    iterate 3 rfl
    · intros; pointwise []; try blk_ext []
    all_goals (pointwise []; try rfl)
  · refine (key2 _ _ _ _ _ _ _ r l).trans (keys_of _ _ _ _ _ _ _ _ _ _ _ _ _ 2 _ l _ ?_ ?_ ?_ ?_ ?_ ?_ ?_)
    iterate 3 rfl
    · intros; pointwise []; try blk_ext []
    all_goals (pointwise []; try rfl)
  · refine (key3 _ _ _ _ _ _ _ r l).trans (keys_of _ _ _ _ _ _ _ _ _ _ _ _ _ 3 _ l _ ?_ ?_ ?_ ?_ ?_ ?_ ?_)
    iterate 3 rfl
    · intros; pointwise []; try blk_ext []
    all_goals (pointwise []; try rfl)
  · refine (key4 _ _ _ _ _ _ _ r l).trans (keys_of _ _ _ _ _ _ _ _ _ _ _ _ _ 4 _ l _ ?_ ?_ ?_ ?_ ?_ ?_ ?_)
    iterate 3 rfl
    · intros; pointwise []; try blk_ext []
    all_goals (pointwise []; try rfl)
  · refine (key5 _ _ _ _ _ _ _ r l).trans (keys_of _ _ _ _ _ _ _ _ _ _ _ _ _ 5 _ l _ ?_ ?_ ?_ ?_ ?_ ?_ ?_)
    iterate 3 rfl
    · intros; pointwise []; try blk_ext []
    all_goals (pointwise []; try rfl)
  · refine (key6 _ _ _ _ _ _ _ r l).trans (keys_of _ _ _ _ _ _ _ _ _ _ _ _ _ 6 _ l _ ?_ ?_ ?_ ?_ ?_ ?_ ?_)
    iterate 3 rfl
    · intros; pointwise []; try blk_ext []
    all_goals (pointwise []; try rfl)
  · refine (key7 _ _ _ _ _ _ _ r l).trans (keys_of _ _ _ _ _ _ _ _ _ _ _ _ _ 7 _ l _ ?_ ?_ ?_ ?_ ?_ ?_ ?_)
    iterate 3 rfl
    · intros; pointwise []; try blk_ext []
    all_goals (pointwise []; try rfl)

end Cert.KernelIdeal.Value

end
-- ==== Proof.Values.lean ====
module

public import proofs.«01_k».proof.Proof.Rows

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec

/-! What one block of 256 rows leaves in the outputs for the values. -/

/-- The values' codes of a block: head `h`, lane `l` of row `r`, from the codes `q` of the rows, the upper 1024 columns of `w` and the scales. -/
def values (q : FVec Ideal S256x5120 .fp8e4m3) (w : FVec Ideal S5120x2048 .fp8e4m3) (sx : FVec Ideal S1 .f32) (sw : FVec Ideal S3 .f32)
    (s : FVec Ideal S1 .f32) (r : Fin 256) (h : Fin 8) (l : Fin 128) : EReal :=
  valueCode (fun k => q (ix2 r k)) (fun k => w (ix2 k ⟨1024 + h * 128 + l, by omega⟩)) (sx (ix1 0)) (sw (ix1 2)) (s (ix1 0))

/-- A lane's value code over a column `W` that is the lane's column of the block is the block's value code there. -/
theorem values_of (q : FVec Ideal S256x5120 .fp8e4m3) (w : FVec Ideal S5120x2048 .fp8e4m3) (sx : FVec Ideal S1 .f32) (sw : FVec Ideal S3 .f32)
    (s : FVec Ideal S1 .f32) (W : Fin 5120 → EReal) (a b d : EReal) (r r' : Fin 256) (h h' : Fin 8) (l l' : Fin 128)
    (hr : (r' : ℕ) = r) (hh : (h' : ℕ) = h) (hl : (l' : ℕ) = l) (hW : ∀ k, W k = w (ix2 k ⟨1024 + h * 128 + l, by omega⟩)) (ha : a = sx (ix1 0)) (hb : b = sw (ix1 2)) (hd : d = s (ix1 0)) :
    valueCode (fun k => q (ix2 r k)) W a b d = values q w sx sw s r' h' l' := by
  obtain rfl := Fin.ext hr
  obtain rfl := Fin.ext hh
  obtain rfl := Fin.ext hl
  obtain rfl : W = fun k => w (ix2 k ⟨1024 + h' * 128 + l', by omega⟩) := funext fun k => hW k
  rw [ha, hb, hd]; rfl

/-- The eight heads stacked, the last computed in place, read at a row, a head and a lane. -/
theorem stack_at_last (s1 sw s : EReal) (a0 a1 a2 a3 a4 a5 a6 : FVec Ideal S256x128 .fp8e4m3) (b : FVec Ideal S256x512 .f32) (r : Fin 256) (h : Fin 8) (l : Fin 128) :
    k0_pay3 (F := Ideal) s1 sw s a0 a1 a2 a3 b a4 a5 a6 (ix3 r h l) = (![a0, a1, a2, a3, a4, a5, a6, k0_pay1 (F := Ideal) s1 sw s b] h) (ix2 r l) := by
  unfold k0_pay3
  generalize k0_pay1 (F := Ideal) s1 sw s b = a7
  pointwise []
  fin_vals h with hk
  all_goals
    obtain rfl : h = Fin.mk _ (by decide) := Fin.ext hk
    rfl

variable (c : Dev nD) (i : grid0.Coords)
variable (arg1 : Memref sig .tc .vmem S256x5120 .bf16) (harg1 : arg1.IsWhole) (arg2 : Memref sig .tc .vmem S5120x2048 .fp8e4m3) (harg2 : arg2.IsWhole)
variable (arg3 : Memref sig .tc .vmem S64x256 .f32) (harg3 : arg3.IsWhole) (arg4 : Memref sig .tc .vmem S64x256 .f32) (harg4 : arg4.IsWhole)
variable (arg5 : Memref sig .tc .vmem S1x5120 .f32) (harg5 : arg5.IsWhole) (arg6 : Memref sig .tc .smem S1 .f32) (harg6 : arg6.IsWhole)
variable (arg7 : Memref sig .tc .smem S3 .f32) (harg7 : arg7.IsWhole) (arg8 : Memref sig .tc .smem S1 .f32) (harg8 : arg8.IsWhole)
variable (arg9 : Memref sig .tc .smem S1 .f32) (harg9 : arg9.IsWhole) (arg10 : Memref sig .tc .vmem S256x5120 .fp8e4m3) (harg10 : arg10.IsWhole)
variable (arg11 : Memref sig .tc .vmem S256x8x128 .fp8e4m3) (harg11 : arg11.IsWhole) (arg12 : Memref sig .tc .vmem S256x8x128 .fp8e4m3) (harg12 : arg12.IsWhole)
variable (arg13 : Memref sig .tc .vmem S256x1024 .fp8e4m3) (harg13 : arg13.IsWhole) (arg14 : Memref sig .tc .vmem S256x1024 .fp8e4m3) (harg14 : arg14.IsWhole)
variable (x0 : FVec Ideal S256x5120 .bf16) (x1 : FVec Ideal S5120x2048 .fp8e4m3) (x2 : FVec Ideal S64x256 .f32) (x3 : FVec Ideal S64x256 .f32) (x4 : FVec Ideal S1x5120 .f32)
variable (x5 : FVec Ideal S1 .f32) (x6 : FVec Ideal S3 .f32) (x7 : FVec Ideal S1 .f32) (x8 : FVec Ideal S1 .f32)

/-- The body's eight stores of 128 lanes leave the values' codes, all heads side by side, in the fifth output's buffer. -/
theorem out13 : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = fun y : S256x1024.Idx =>
    values (codes x0 x4 x5) x1 x5 x6 x8 (y 0) ⟨y 1 / 128, Nat.div_lt_of_lt_mul (y 1).isLt⟩ ⟨y 1 % 128, Nat.mod_lt _ (by decide)⟩ := by
  have e := out9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
  frame_open at e
  rw [View.read_writes_junk_eq_canon] at e
  frame_open
  rw [readCov_eq_of_canon e]
  clear e
  frame_out
  generalize codes x0 x4 x5 = q
  funext y
  canon_tiles x h
  case piece0 =>
    rw [eq_ix2 x]
    refine (value7 _ _ _ _ _ (x 0) (x 1)).trans (values_of _ _ _ _ _ _ _ _ _ _ _ 7 _ (x 1) _ ?_ ?_ ?_ ?_ ?_ ?_ ?_)
    · exact h0
    · show (y 1 : ℕ) / 128 = 7; omega
    · show (y 1 : ℕ) % 128 = x 1; omega
    · intros; pointwise []; try blk_ext []
    all_goals (pointwise []; try rfl)
  case piece1 =>
    rw [eq_ix2 x]
    refine (value6 _ _ _ _ _ (x 0) (x 1)).trans (values_of _ _ _ _ _ _ _ _ _ _ _ 6 _ (x 1) _ ?_ ?_ ?_ ?_ ?_ ?_ ?_)
    · exact h0
    · show (y 1 : ℕ) / 128 = 6; omega
    · show (y 1 : ℕ) % 128 = x 1; omega
    · intros; pointwise []; try blk_ext []
    all_goals (pointwise []; try rfl)
  case piece2 =>
    rw [eq_ix2 x]
    refine (value5 _ _ _ _ _ (x 0) (x 1)).trans (values_of _ _ _ _ _ _ _ _ _ _ _ 5 _ (x 1) _ ?_ ?_ ?_ ?_ ?_ ?_ ?_)
    · exact h0
    · show (y 1 : ℕ) / 128 = 5; omega
    · show (y 1 : ℕ) % 128 = x 1; omega
    · intros; pointwise []; try blk_ext []
    all_goals (pointwise []; try rfl)
  case piece3 =>
    rw [eq_ix2 x]
    refine (value4 _ _ _ _ _ (x 0) (x 1)).trans (values_of _ _ _ _ _ _ _ _ _ _ _ 4 _ (x 1) _ ?_ ?_ ?_ ?_ ?_ ?_ ?_)
    · exact h0
    · show (y 1 : ℕ) / 128 = 4; omega
    · show (y 1 : ℕ) % 128 = x 1; omega
    · intros; pointwise []; try blk_ext []
    all_goals (pointwise []; try rfl)
  case piece4 =>
    rw [eq_ix2 x]
    refine (value3 _ _ _ _ _ (x 0) (x 1)).trans (values_of _ _ _ _ _ _ _ _ _ _ _ 3 _ (x 1) _ ?_ ?_ ?_ ?_ ?_ ?_ ?_)
    · exact h0
    · show (y 1 : ℕ) / 128 = 3; omega
    · show (y 1 : ℕ) % 128 = x 1; omega
    · intros; pointwise []; try blk_ext []
    all_goals (pointwise []; try rfl)
  case piece5 =>
    rw [eq_ix2 x]
    refine (value2 _ _ _ _ _ (x 0) (x 1)).trans (values_of _ _ _ _ _ _ _ _ _ _ _ 2 _ (x 1) _ ?_ ?_ ?_ ?_ ?_ ?_ ?_)
    · exact h0
    · show (y 1 : ℕ) / 128 = 2; omega
    · show (y 1 : ℕ) % 128 = x 1; omega
    · intros; pointwise []; try blk_ext []
    all_goals (pointwise []; try rfl)
  case piece6 =>
    rw [eq_ix2 x]
    refine (value1 _ _ _ _ _ (x 0) (x 1)).trans (values_of _ _ _ _ _ _ _ _ _ _ _ 1 _ (x 1) _ ?_ ?_ ?_ ?_ ?_ ?_ ?_)
    · exact h0
    · show (y 1 : ℕ) / 128 = 1; omega
    · show (y 1 : ℕ) % 128 = x 1; omega
    · intros; pointwise []; try blk_ext []
    all_goals (pointwise []; try rfl)
  case piece7 =>
    rw [eq_ix2 x]
    refine (value0 _ _ _ _ _ (x 0) (x 1)).trans (values_of _ _ _ _ _ _ _ _ _ _ _ 0 _ (x 1) _ ?_ ?_ ?_ ?_ ?_ ?_ ?_)
    · exact h0
    · show (y 1 : ℕ) / 128 = 0; omega
    · show (y 1 : ℕ) % 128 = x 1; omega
    · intros; pointwise []; try blk_ext []
    all_goals (pointwise []; try rfl)

/-- The body's one store of a whole block leaves the values' codes, head by head, in the third output's buffer. -/
theorem out11 : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = fun y : S256x8x128.Idx => values (codes x0 x4 x5) x1 x5 x6 x8 (y 0) (y 1) (y 2) := by
  have e := out9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
  frame_open at e
  rw [View.read_writes_junk_eq_canon] at e
  frame_open
  rw [readCov_eq_of_canon e]
  clear e
  frame_out
  generalize codes x0 x4 x5 = q
  funext y
  obtain ⟨r, h, l, rfl⟩ : ∃ r h l, y = ix3 r h l := ⟨y 0, y 1, y 2, eq_ix3 y⟩
  refine (stack_at_last _ _ _ _ _ _ _ _ _ _ _ r h l).trans ?_
  change _ = values q x1 x5 x6 x8 r h l
  fin_cases h
  · refine (value0 _ _ _ _ _ r l).trans (values_of _ _ _ _ _ _ _ _ _ _ _ 0 _ l _ ?_ ?_ ?_ ?_ ?_ ?_ ?_)
    iterate 3 rfl
    · intros; pointwise []; try blk_ext []
    all_goals (pointwise []; try rfl)
  · refine (value1 _ _ _ _ _ r l).trans (values_of _ _ _ _ _ _ _ _ _ _ _ 1 _ l _ ?_ ?_ ?_ ?_ ?_ ?_ ?_)
    iterate 3 rfl
    · intros; pointwise []; try blk_ext []
    all_goals (pointwise []; try rfl)
  · refine (value2 _ _ _ _ _ r l).trans (values_of _ _ _ _ _ _ _ _ _ _ _ 2 _ l _ ?_ ?_ ?_ ?_ ?_ ?_ ?_)
    iterate 3 rfl
    · intros; pointwise []; try blk_ext []
    all_goals (pointwise []; try rfl)
  · refine (value3 _ _ _ _ _ r l).trans (values_of _ _ _ _ _ _ _ _ _ _ _ 3 _ l _ ?_ ?_ ?_ ?_ ?_ ?_ ?_)
    iterate 3 rfl
    · intros; pointwise []; try blk_ext []
    all_goals (pointwise []; try rfl)
  · refine (value4 _ _ _ _ _ r l).trans (values_of _ _ _ _ _ _ _ _ _ _ _ 4 _ l _ ?_ ?_ ?_ ?_ ?_ ?_ ?_)
    iterate 3 rfl
    · intros; pointwise []; try blk_ext []
    all_goals (pointwise []; try rfl)
  · refine (value5 _ _ _ _ _ r l).trans (values_of _ _ _ _ _ _ _ _ _ _ _ 5 _ l _ ?_ ?_ ?_ ?_ ?_ ?_ ?_)
    iterate 3 rfl
    · intros; pointwise []; try blk_ext []
    all_goals (pointwise []; try rfl)
  · refine (value6 _ _ _ _ _ r l).trans (values_of _ _ _ _ _ _ _ _ _ _ _ 6 _ l _ ?_ ?_ ?_ ?_ ?_ ?_ ?_)
    iterate 3 rfl
    · intros; pointwise []; try blk_ext []
    all_goals (pointwise []; try rfl)
  · refine (value7 _ _ _ _ _ r l).trans (values_of _ _ _ _ _ _ _ _ _ _ _ 7 _ l _ ?_ ?_ ?_ ?_ ?_ ?_ ?_)
    iterate 3 rfl
    · intros; pointwise []; try blk_ext []
    all_goals (pointwise []; try rfl)

end Cert.KernelIdeal.Value

end
-- ==== Proof.Array.lean ====
module

public import proofs.«01_k».proof.Proof.Gen.KernelIdeal.Value
public import proofs.«01_k».proof.Proof.Model
public import proofs.«01_k».proof.Proof.Keys
public import proofs.«01_k».proof.Proof.Values

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

/-! What the five result arrays hold after the run, as functions of the argument arrays. -/

variable (m : (ℓ : Loc nD τ sig) → Buf (Elt Ideal) ℓ)

/-- The block of each window at grid point `t`. -/
theorem idx : ∀ t : Fin cfg0.N, win0_0.index t = ![t.val, 0] ∧ win0_1.index t = ![0, 2] ∧ win0_2.index t = ![0, t.val] ∧ win0_3.index t = ![0, t.val]
   ∧ win0_4.index t = ![0, 0] ∧ win0_5.index t = ![0] ∧ win0_6.index t = ![0] ∧ win0_7.index t = ![0] ∧ win0_8.index t = ![0]
   ∧ win0_9.index t = ![t.val, 0] ∧ win0_10.index t = ![t.val, 0, 0] ∧ win0_11.index t = ![t.val, 0, 0] ∧ win0_12.index t = ![t.val, 0] ∧ win0_13.index t = ![t.val, 0] :=
  (by decide +kernel : ∀ t : Fin grid0.N, _)

/-- There are 23 blocks of rows. -/
theorem point_lt (t : Fin cfg0.N) : t.val < 23 := lt_of_lt_of_eq t.isLt N_0

/-- Row `r` of block `t`, among all rows. -/
def row (t : Fin cfg0.N) (r : Fin 256) : Fin 5888 := ⟨t.val * 256 + r, by have := point_lt t; omega⟩

theorem x_at (c : Dev nD) (t : Fin cfg0.N) (r : Fin 256) (k : Fin 5120) : (show FVec Ideal S256x5120 .bf16 from iblk m c 0 t) (ix2 r k)
    = (show FVec Ideal S5888x5120 .bf16 from m ((c : Thread nD τ).loc main_arg0)) (ix2 (row t r) k) := by
  have := point_lt t
  blk_ext [iblk, V, idx t, row]

theorem w_at (c : Dev nD) (t : Fin cfg0.N) (k : Fin 5120) (j : Fin 2048) : (show FVec Ideal S5120x2048 .fp8e4m3 from iblk m c 1 t) (ix2 k j)
    = (show FVec Ideal S5120x6144 .fp8e4m3 from m ((c : Thread nD τ).loc main_arg1)) (ix2 k ⟨4096 + j, by omega⟩) := by
  blk_ext [iblk, V, idx t]

theorem cos_at (c : Dev nD) (t : Fin cfg0.N) (j : Fin 64) (r : Fin 256) : (show FVec Ideal S64x256 .f32 from iblk m c 2 t) (ix2 j r)
    = (show FVec Ideal S5888x64 .f32 from m ((c : Thread nD τ).loc main_arg2)) (ix2 (row t r) j) := by
  have := point_lt t
  blk_simp [iblk, idx t]
  entry_read
  pointwise
  blk_ext [idx t, row]

theorem sin_at (c : Dev nD) (t : Fin cfg0.N) (j : Fin 64) (r : Fin 256) : (show FVec Ideal S64x256 .f32 from iblk m c 3 t) (ix2 j r)
    = (show FVec Ideal S5888x64 .f32 from m ((c : Thread nD τ).loc main_arg3)) (ix2 (row t r) j) := by
  have := point_lt t
  blk_simp [iblk, idx t]
  entry_read
  pointwise
  blk_ext [idx t, row]

theorem ln_at (c : Dev nD) (t : Fin cfg0.N) (k : Fin 5120) : (show FVec Ideal S1x5120 .f32 from iblk m c 4 t) (ix2 0 k)
    = (show FVec Ideal S5120 .f32 from m ((c : Thread nD τ).loc main_arg4)) (ix1 k) := by
  blk_simp [iblk, idx t]
  entry_read
  pointwise
  blk_ext [idx t]

theorem sx_at (c : Dev nD) (t : Fin cfg0.N) : (show FVec Ideal S1 .f32 from iblk m c 5 t) (ix1 0)
    = (show FVec Ideal S_ .f32 from m ((c : Thread nD τ).loc main_arg5)) ix0 := by
  blk_simp [iblk, idx t]
  entry_read
  pointwise
  all_goals blk_ext [idx t]

theorem sw_at (c : Dev nD) (t : Fin cfg0.N) (k : Fin 3) : (show FVec Ideal S3 .f32 from iblk m c 6 t) (ix1 k)
    = (show FVec Ideal S3 .f32 from m ((c : Thread nD τ).loc main_arg6)) (ix1 k) := by
  blk_ext [iblk, V, idx t]

theorem sk_at (c : Dev nD) (t : Fin cfg0.N) : (show FVec Ideal S1 .f32 from iblk m c 7 t) (ix1 0)
    = (show FVec Ideal S_ .f32 from m ((c : Thread nD τ).loc main_arg7)) ix0 := by
  blk_simp [iblk, idx t]
  entry_read
  pointwise
  all_goals blk_ext [idx t]

theorem sv_at (c : Dev nD) (t : Fin cfg0.N) : (show FVec Ideal S1 .f32 from iblk m c 8 t) (ix1 0)
    = (show FVec Ideal S_ .f32 from m ((c : Thread nD τ).loc main_arg8)) ix0 := by
  blk_simp [iblk, idx t]
  entry_read
  pointwise
  all_goals blk_ext [idx t]

/-- The argument arrays as tables of numbers. -/
def tx (c : Dev nD) (r : Fin 5888) (k : Fin 5120) : EReal := (show FVec Ideal S5888x5120 .bf16 from m ((c : Thread nD τ).loc main_arg0)) (ix2 r k)
@[inherit_doc tx] def tw (c : Dev nD) (k : Fin 5120) (j : Fin 6144) : EReal := (show FVec Ideal S5120x6144 .fp8e4m3 from m ((c : Thread nD τ).loc main_arg1)) (ix2 k j)
@[inherit_doc tx] def tcos (c : Dev nD) (r : Fin 5888) (j : Fin 64) : EReal := (show FVec Ideal S5888x64 .f32 from m ((c : Thread nD τ).loc main_arg2)) (ix2 r j)
@[inherit_doc tx] def tsin (c : Dev nD) (r : Fin 5888) (j : Fin 64) : EReal := (show FVec Ideal S5888x64 .f32 from m ((c : Thread nD τ).loc main_arg3)) (ix2 r j)
@[inherit_doc tx] def tln (c : Dev nD) (k : Fin 5120) : EReal := (show FVec Ideal S5120 .f32 from m ((c : Thread nD τ).loc main_arg4)) (ix1 k)
@[inherit_doc tx] def tsx (c : Dev nD) : EReal := (show FVec Ideal S_ .f32 from m ((c : Thread nD τ).loc main_arg5)) ix0
@[inherit_doc tx] def tsw (c : Dev nD) (k : Fin 3) : EReal := (show FVec Ideal S3 .f32 from m ((c : Thread nD τ).loc main_arg6)) (ix1 k)
@[inherit_doc tx] def tsk (c : Dev nD) : EReal := (show FVec Ideal S_ .f32 from m ((c : Thread nD τ).loc main_arg7)) ix0
@[inherit_doc tx] def tsv (c : Dev nD) : EReal := (show FVec Ideal S_ .f32 from m ((c : Thread nD τ).loc main_arg8)) ix0

/-- The codes of a block are the codes of its rows. -/
theorem codes_row (c : Dev nD) (t : Fin cfg0.N) (r : Fin 256) (k : Fin 5120) :
    codes (iblk m c 0 t) (iblk m c 4 t) (iblk m c 5 t) (ix2 r k) = code (tx m c (row t r)) (tln m c) (tsx m c) k := by
  show code _ _ _ k = _
  have hx : (fun k => (show FVec Ideal S256x5120 .bf16 from iblk m c 0 t) (ix2 r k)) = tx m c (row t r) := funext fun k => x_at m c t r k
  have hl : (fun k => (show FVec Ideal S1x5120 .f32 from iblk m c 4 t) (ix2 0 k)) = tln m c := funext fun k => ln_at m c t k
  have hs : (show FVec Ideal S1 .f32 from iblk m c 5 t) (ix1 0) = tsx m c := sx_at m c t
  exact hx ▸ hl ▸ hs ▸ rfl

/-- The key codes of a block are the key codes of its rows. -/
theorem keys_row (c : Dev nD) (t : Fin cfg0.N) (r : Fin 256) (h : Fin 8) (l : Fin 128) :
    keys (codes (iblk m c 0 t) (iblk m c 4 t) (iblk m c 5 t)) (iblk m c 1 t) (iblk m c 2 t) (iblk m c 3 t) (iblk m c 5 t) (iblk m c 6 t) (iblk m c 7 t) r h l
      = keyAt (tx m c) (tln m c) (tw m c) (tcos m c) (tsin m c) (tsx m c) (tsw m c) (tsk m c) (row t r) h l := by
  have hq : (fun k => codes (iblk m c 0 t) (iblk m c 4 t) (iblk m c 5 t) (ix2 r k)) = code (tx m c (row t r)) (tln m c) (tsx m c) := funext fun k => codes_row m c t r k
  have hw : (fun (j : Fin 128) k => (show FVec Ideal S5120x2048 .fp8e4m3 from iblk m c 1 t) (ix2 k ⟨h * 128 + j, by omega⟩))
      = fun (j : Fin 128) k => tw m c k ⟨4096 + (h * 128 + j), by omega⟩ := funext fun j => funext fun k => w_at m c t k _
  have hc : (fun j => (show FVec Ideal S64x256 .f32 from iblk m c 2 t) (ix2 j r)) = tcos m c (row t r) := funext fun j => cos_at m c t j r
  have hi : (fun j => (show FVec Ideal S64x256 .f32 from iblk m c 3 t) (ix2 j r)) = tsin m c (row t r) := funext fun j => sin_at m c t j r
  have h5 : (show FVec Ideal S1 .f32 from iblk m c 5 t) (ix1 0) = tsx m c := sx_at m c t
  have h6 : (show FVec Ideal S3 .f32 from iblk m c 6 t) (ix1 1) = tsw m c 1 := sw_at m c t 1
  have h7 : (show FVec Ideal S1 .f32 from iblk m c 7 t) (ix1 0) = tsk m c := sk_at m c t
  show keyCode _ _ _ _ _ _ _ _ = keyCode _ _ _ _ _ _ _ _
  congr 1

/-- The value codes of a block are the value codes of its rows. -/
theorem values_row (c : Dev nD) (t : Fin cfg0.N) (r : Fin 256) (h : Fin 8) (l : Fin 128) :
    values (codes (iblk m c 0 t) (iblk m c 4 t) (iblk m c 5 t)) (iblk m c 1 t) (iblk m c 5 t) (iblk m c 6 t) (iblk m c 8 t) r h l
      = valueAt (tx m c) (tln m c) (tw m c) (tsx m c) (tsw m c) (tsv m c) (row t r) h l := by
  have hq : (fun k => codes (iblk m c 0 t) (iblk m c 4 t) (iblk m c 5 t) (ix2 r k)) = code (tx m c (row t r)) (tln m c) (tsx m c) := funext fun k => codes_row m c t r k
  have hw : (fun k => (show FVec Ideal S5120x2048 .fp8e4m3 from iblk m c 1 t) (ix2 k ⟨1024 + h * 128 + l, by omega⟩))
      = fun k => tw m c k ⟨5120 + (h * 128 + l), by omega⟩ := funext fun k => (w_at m c t k _).trans (congrArg (tw m c k) (Fin.ext (by show 4096 + (1024 + (h : ℕ) * 128 + l) = 5120 + (h * 128 + l); omega)))
  have h5 : (show FVec Ideal S1 .f32 from iblk m c 5 t) (ix1 0) = tsx m c := sx_at m c t
  have h6 : (show FVec Ideal S3 .f32 from iblk m c 6 t) (ix1 2) = tsw m c 2 := sw_at m c t 2
  have h8 : (show FVec Ideal S1 .f32 from iblk m c 8 t) (ix1 0) = tsv m c := sv_at m c t
  show valueCode _ _ _ _ _ = valueCode _ _ _ _ _
  congr 1

/-- The first result array: the codes of every row. -/
def codesArray (c : Dev nD) : FVec Ideal S5888x5120 .fp8e4m3 := fun y => code (tx m c (y 0)) (tln m c) (tsx m c) (y 1)

/-- The second result array: the key codes by row, head and lane. -/
def keysArray (c : Dev nD) : FVec Ideal S5888x8x128 .fp8e4m3 := fun y => keyAt (tx m c) (tln m c) (tw m c) (tcos m c) (tsin m c) (tsx m c) (tsw m c) (tsk m c) (y 0) (y 1) (y 2)

/-- The third result array: the value codes by row, head and lane. -/
def valuesArray (c : Dev nD) : FVec Ideal S5888x8x128 .fp8e4m3 := fun y => valueAt (tx m c) (tln m c) (tw m c) (tsx m c) (tsw m c) (tsv m c) (y 0) (y 1) (y 2)

/-- The fourth result array: the key codes, the heads of a row side by side. -/
def keysFlat (c : Dev nD) : FVec Ideal S5888x1024 .fp8e4m3 := fun y => keyAt (tx m c) (tln m c) (tw m c) (tcos m c) (tsin m c) (tsx m c) (tsw m c) (tsk m c) (y 0) ⟨y 1 / 128, Nat.div_lt_of_lt_mul (y 1).isLt⟩ ⟨y 1 % 128, Nat.mod_lt _ (by decide)⟩

/-- The fifth result array: the value codes, the heads of a row side by side. -/
def valuesFlat (c : Dev nD) : FVec Ideal S5888x1024 .fp8e4m3 := fun y => valueAt (tx m c) (tln m c) (tw m c) (tsx m c) (tsw m c) (tsv m c) (y 0) ⟨y 1 / 128, Nat.div_lt_of_lt_mul (y 1).isLt⟩ ⟨y 1 % 128, Nat.mod_lt _ (by decide)⟩

theorem final9 (c : Dev nD) : (dats m 0 c).arrAt 9 (cfgs 0).N = codesArray m c := by
  refine (dats m 0 c).arrAt_eq_of_covers 9 _ (by decide +kernel) fun t hf y => ?_
  blk_simp
  rw [after0_9]
  dsimp only [outsAt0]
  rw [out9]
  have ht := point_lt t
  revert y
  intro (y : S256x5120.Idx)
  have e : (((View.whole main_v6_0).slice (win0_9.rect t)).emb y : S5888x5120.Idx) = ix2 (row t (y 0)) (y 1) := by
    blk_ext [idx t, row]
  have ey : y = ix2 (y 0) (y 1) := eq_ix2 y
  refine Eq.trans ?_ (congrArg (codesArray m c) e).symm
  refine Eq.trans ?_ (codes_row m c t (y 0) (y 1))
  exact congrArg (codes (iblk m c 0 t) (iblk m c 4 t) (iblk m c 5 t)) ey

theorem final10 (c : Dev nD) : (dats m 0 c).arrAt 10 (cfgs 0).N = keysArray m c := by
  refine (dats m 0 c).arrAt_eq_of_covers 10 _ (by decide +kernel) fun t hf y => ?_
  blk_simp
  rw [after0_10]
  dsimp only [outsAt0]
  rw [out10]
  have ht := point_lt t
  revert y
  intro (y : S256x8x128.Idx)
  have e : (((View.whole main_v6_1).slice (win0_10.rect t)).emb y : S5888x8x128.Idx) = ix3 (row t (y 0)) (y 1) (y 2) := by
    blk_ext [idx t, row]
  have ey : y = ix3 (y 0) (y 1) (y 2) := eq_ix3 y
  refine Eq.trans ?_ (congrArg (keysArray m c) e).symm
  refine Eq.trans ?_ (keys_row m c t (y 0) (y 1) (y 2))
  rfl

theorem final11 (c : Dev nD) : (dats m 0 c).arrAt 11 (cfgs 0).N = valuesArray m c := by
  refine (dats m 0 c).arrAt_eq_of_covers 11 _ (by decide +kernel) fun t hf y => ?_
  blk_simp
  rw [after0_11]
  dsimp only [outsAt0]
  rw [out11]
  have ht := point_lt t
  revert y
  intro (y : S256x8x128.Idx)
  have e : (((View.whole main_v6_2).slice (win0_11.rect t)).emb y : S5888x8x128.Idx) = ix3 (row t (y 0)) (y 1) (y 2) := by
    blk_ext [idx t, row]
  have ey : y = ix3 (y 0) (y 1) (y 2) := eq_ix3 y
  refine Eq.trans ?_ (congrArg (valuesArray m c) e).symm
  refine Eq.trans ?_ (values_row m c t (y 0) (y 1) (y 2))
  rfl

theorem final12 (c : Dev nD) : (dats m 0 c).arrAt 12 (cfgs 0).N = keysFlat m c := by
  refine (dats m 0 c).arrAt_eq_of_covers 12 _ (by decide +kernel) fun t hf y => ?_
  blk_simp
  rw [after0_12]
  dsimp only [outsAt0]
  rw [out12]
  have ht := point_lt t
  revert y
  intro (y : S256x1024.Idx)
  have e : (((View.whole main_v6_3).slice (win0_12.rect t)).emb y : S5888x1024.Idx) = ix2 (row t (y 0)) (y 1) := by
    blk_ext [idx t, row]
  have ey : y = ix2 (y 0) (y 1) := eq_ix2 y
  refine Eq.trans ?_ (congrArg (keysFlat m c) e).symm
  refine Eq.trans ?_ (keys_row m c t (y 0) ⟨y 1 / 128, Nat.div_lt_of_lt_mul (y 1).isLt⟩ ⟨y 1 % 128, Nat.mod_lt _ (by decide)⟩)
  rfl

theorem final13 (c : Dev nD) : (dats m 0 c).arrAt 13 (cfgs 0).N = valuesFlat m c := by
  refine (dats m 0 c).arrAt_eq_of_covers 13 _ (by decide +kernel) fun t hf y => ?_
  blk_simp
  rw [after0_13]
  dsimp only [outsAt0]
  rw [out13]
  have ht := point_lt t
  revert y
  intro (y : S256x1024.Idx)
  have e : (((View.whole main_v6_4).slice (win0_13.rect t)).emb y : S5888x1024.Idx) = ix2 (row t (y 0)) (y 1) := by
    blk_ext [idx t, row]
  have ey : y = ix2 (y 0) (y 1) := eq_ix2 y
  refine Eq.trans ?_ (congrArg (valuesFlat m c) e).symm
  refine Eq.trans ?_ (values_row m c t (y 0) ⟨y 1 / 128, Nat.div_lt_of_lt_mul (y 1).isLt⟩ ⟨y 1 % 128, Nat.mod_lt _ (by decide)⟩)
  rfl

end Cert.KernelIdeal.Value

end
-- ==== Proof.Plain.lean ====
module

public import proofs.«01_k».proof.Proof.Gen.ReferenceIdeal.Skeleton
public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Spec

/-! What each value the reference computes is, entry by entry. -/

/-- The codes of the normalised input. -/
theorem codes_at (v0 : Elt Ideal .f32) (v5 : Vec Ideal S5888x5120 .bf16) (v17 : Vec Ideal S1x5120 .f32) (r : Fin 5888) (c : Fin 5120) :
    k0_pay1 v0 v5 v17 (ix2 r c) = code (fun k => v5 (ix2 r k)) (fun k => v17 (ix2 0 k)) v0 c := by
  pointwise [k0_pay1, code, clip]

/-- The projection onto the key and value columns, before the scales. -/
theorem product_at (v0 : Elt Ideal .f32) (v5 : Vec Ideal S5888x5120 .bf16) (v17 : Vec Ideal S1x5120 .f32) (v28 : Vec Ideal S5120x2048 .fp8e4m3) (r : Fin 5888) (c : Fin 2048) :
    k0_pay2 v0 v5 v17 v28 (ix2 r c) = ∑ k, code (fun k => v5 (ix2 r k)) (fun k => v17 (ix2 0 k)) v0 k * v28 (ix2 k c) := by
  have h : ∀ k : Fin 5120, k0_pay1 v0 v5 v17 (ix2 r k) = code (fun k => v5 (ix2 r k)) (fun k => v17 (ix2 0 k)) v0 k := fun k => codes_at v0 v5 v17 r k
  simp only [← h]
  unfold k0_pay2
  generalize k0_pay1 v0 v5 v17 = q
  pointwise []

/-- The keys before the rotary embedding. -/
theorem key_at (v0 v1 : Elt Ideal .f32) (v5 : Vec Ideal S5888x5120 .bf16) (v17 : Vec Ideal S1x5120 .f32) (v28 : Vec Ideal S5120x2048 .fp8e4m3) (r : Fin 5888) (h : Fin 8) (l : Fin 128) :
    k0_pay3 v0 v1 v5 v17 v28 (ix3 r h l) = proj (code (fun k => v5 (ix2 r k)) (fun k => v17 (ix2 0 k)) v0) (fun k => v28 (ix2 k ⟨h * 128 + l, by omega⟩)) v0 v1 := by
  have e := product_at v0 v5 v17 v28 r ⟨h * 128 + l, by omega⟩
  unfold k0_pay3 proj
  rw [← e]
  generalize k0_pay2 v0 v5 v17 v28 = p
  pointwise []

/-- The values. -/
theorem value_at (v0 v2 : Elt Ideal .f32) (v5 : Vec Ideal S5888x5120 .bf16) (v17 : Vec Ideal S1x5120 .f32) (v28 : Vec Ideal S5120x2048 .fp8e4m3) (r : Fin 5888) (h : Fin 8) (l : Fin 128) :
    k0_pay4 v0 v2 v5 v17 v28 (ix3 r h l) = proj (code (fun k => v5 (ix2 r k)) (fun k => v17 (ix2 0 k)) v0) (fun k => v28 (ix2 k ⟨1024 + (h * 128 + l), by omega⟩)) v0 v2 := by
  have e := product_at v0 v5 v17 v28 r ⟨1024 + (h * 128 + l), by omega⟩
  unfold k0_pay4 proj
  rw [← e]
  generalize k0_pay2 v0 v5 v17 v28 = p
  pointwise []

/-- The key codes: the keys rotated, divided by the scale, clipped. -/
theorem keyCode_at (v3 : Elt Ideal .f32) (v35 : FVec Ideal S5888x8x128 .f32) (v42 v44 : Vec Ideal S5888x64 .f32) (r : Fin 5888) (h : Fin 8) (l : Fin 128) :
    k0_pay5 v3 v35 v42 v44 (ix3 r h l) = clip (Ideal.div (rope (fun j => v35 (ix3 r h j)) (fun j => v42 (ix2 r j)) (fun j => v44 (ix2 r j)) l) v3) := by
  pointwise [k0_pay5, clip, rope]
  congr 3
  by_cases hl : (l : ℕ) < 64
  · have e : (⟨64 + (l : ℕ), by omega⟩ : Fin 128) = ⟨l + 64, by omega⟩ := Fin.ext (Nat.add_comm _ _)
    rw [dif_pos hl, dif_pos hl, e]
  · have e : (⟨64 + ((l : ℕ) - 64), by omega⟩ : Fin 128) = l := Fin.ext (by show 64 + ((l : ℕ) - 64) = l; omega)
    rw [dif_neg hl, dif_neg hl, e]

/-- The value codes: the values divided by the scale, clipped. -/
theorem valueCode_at (v4 : Elt Ideal .f32) (v41 : FVec Ideal S5888x8x128 .f32) (r : Fin 5888) (h : Fin 8) (l : Fin 128) :
    k0_pay6 v4 v41 (ix3 r h l) = clip (Ideal.div (v41 (ix3 r h l)) v4) := by
  pointwise [k0_pay6, clip]

/-- The key codes with the heads side by side. -/
theorem keyFlat_at (v3 : Elt Ideal .f32) (v35 : FVec Ideal S5888x8x128 .f32) (v42 v44 : Vec Ideal S5888x64 .f32) (r : Fin 5888) (c : Fin 1024) :
    k0_pay7 v3 v35 v42 v44 (ix2 r c) = k0_pay5 v3 v35 v42 v44 (ix3 r ⟨c / 128, Nat.div_lt_of_lt_mul c.isLt⟩ ⟨c % 128, Nat.mod_lt _ (by decide)⟩) := by
  unfold k0_pay7
  generalize k0_pay5 v3 v35 v42 v44 = p
  pointwise []

/-- The value codes with the heads side by side. -/
theorem valueFlat_at (v4 : Elt Ideal .f32) (v41 : FVec Ideal S5888x8x128 .f32) (r : Fin 5888) (c : Fin 1024) :
    k0_pay8 v4 v41 (ix2 r c) = k0_pay6 v4 v41 (ix3 r ⟨c / 128, Nat.div_lt_of_lt_mul c.isLt⟩ ⟨c % 128, Nat.mod_lt _ (by decide)⟩) := by
  unfold k0_pay8
  generalize k0_pay6 v4 v41 = p
  pointwise []

end Cert.ReferenceIdeal.Value

end
-- ==== Proof.Whole.lean ====
module

public import proofs.«01_k».proof.Proof.Gen.ReferenceIdeal.Value
public import proofs.«01_k».proof.Proof.Plain
public import proofs.«01_k».proof.Proof.Model
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Spec

/-! What the reference leaves in each of its five results, as a function of its operands. -/

variable (c : Dev nD)
variable (arg0 : Memref sig .tc .vmem S5888x5120 .bf16) (harg0 : arg0.IsWhole) (arg1 : Memref sig .tc .vmem S5120x6144 .fp8e4m3) (harg1 : arg1.IsWhole) (arg2 : Memref sig .tc .vmem S5888x64 .f32) (harg2 : arg2.IsWhole)
variable (arg3 : Memref sig .tc .vmem S5888x64 .f32) (harg3 : arg3.IsWhole) (arg4 : Memref sig .tc .vmem S1x5120 .f32) (harg4 : arg4.IsWhole) (arg5 : Memref sig .tc .smem S1 .f32) (harg5 : arg5.IsWhole)
variable (arg6 : Memref sig .tc .smem S3 .f32) (harg6 : arg6.IsWhole) (arg7 : Memref sig .tc .smem S1 .f32) (harg7 : arg7.IsWhole) (arg8 : Memref sig .tc .smem S1 .f32) (harg8 : arg8.IsWhole)
variable (arg9 : Memref sig .tc .vmem S5888x5120 .fp8e4m3) (harg9 : arg9.IsWhole) (arg10 : Memref sig .tc .vmem S5888x8x128 .fp8e4m3) (harg10 : arg10.IsWhole) (arg11 : Memref sig .tc .vmem S5888x8x128 .fp8e4m3) (harg11 : arg11.IsWhole)
variable (arg12 : Memref sig .tc .vmem S5888x1024 .fp8e4m3) (harg12 : arg12.IsWhole) (arg13 : Memref sig .tc .vmem S5888x1024 .fp8e4m3) (harg13 : arg13.IsWhole)
variable (x0 : Vec Ideal S5888x5120 .bf16) (x1 : Vec Ideal S5120x6144 .fp8e4m3) (x2 : Vec Ideal S5888x64 .f32) (x3 : Vec Ideal S5888x64 .f32) (x4 : Vec Ideal S1x5120 .f32) (x5 : Vec Ideal S1 .f32) (x6 : Vec Ideal S3 .f32) (x7 : Vec Ideal S1 .f32) (x8 : Vec Ideal S1 .f32)

/-- The 2048 key and value columns of the weight, which start at column 4096. -/
def kvColumns (w : Vec Ideal S5120x6144 .fp8e4m3) : Vec Ideal S5120x2048 .fp8e4m3 := fun y => w (ix2 (y 0) ⟨4096 + y 1, by have := (y 1).isLt; show 4096 + (y 1 : ℕ) < 6144; change (y 1 : ℕ) < 2048 at this; omega⟩)

/-- The scale read from a one-element operand. -/
theorem scale_at (x : Vec Ideal S1 .f32) (hn : 0 < (Rect.unit (s := S1) ![0] S1.size inb_S1_S1_0).shape.numel) :
    View.ld x (Rect.unit (s := S1) ![0] S1.size inb_S1_S1_0) (Shape.Idx.first hn) = x (ix1 0) := by
  refine congrArg x (funext fun a => ?_)
  match a with
  | 0 => exact Subsingleton.elim (α := Fin 1) _ _

/-- The second of the three weight scales. -/
theorem scale1_at (x : Vec Ideal S3 .f32) (hn : 0 < (Rect.unit (s := S3) ![1] S1.size inb_S3_S1_1).shape.numel) :
    View.ld x (Rect.unit (s := S3) ![1] S1.size inb_S3_S1_1) (Shape.Idx.first hn) = x (ix1 1) := by
  refine congrArg x (funext fun a => ?_)
  match a with
  | 0 => rfl

/-- The third of the three weight scales. -/
theorem scale2_at (x : Vec Ideal S3 .f32) (hn : 0 < (Rect.unit (s := S3) ![2] S1.size inb_S3_S1_2).shape.numel) :
    View.ld x (Rect.unit (s := S3) ![2] S1.size inb_S3_S1_2) (Shape.Idx.first hn) = x (ix1 2) := by
  refine congrArg x (funext fun a => ?_)
  match a with
  | 0 => rfl

/-- The slice of the weight is its key and value columns. -/
theorem columns_eq (w : Vec Ideal S5120x6144 .fp8e4m3) :
    View.ld w (Rect.unit (s := S5120x6144) ![0, 4096] S5120x2048.size inb_S5120x6144_S5120x2048_0_4096) = kvColumns w := by
  funext (y : S5120x2048.Idx)
  show w _ = w _
  refine congrArg w ?_
  blk_ext []
  · exact Nat.zero_add _ |>.trans (Nat.one_mul _)
  · exact congrArg (4096 + ·) (Nat.one_mul _)

/-- The first result is the array of codes. -/
theorem out9 : out0_A_9 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = k0_pay1 (x5 (ix1 0)) x0 x4 := by
  unfold out0_A_9
  frame_out
  rw [scale_at x5]

/-- The second result is the array of key codes. -/
theorem out10 : out0_A_10 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = k0_pay5 (x7 (ix1 0)) (k0_pay3 (x5 (ix1 0)) (x6 (ix1 1)) x0 x4 (kvColumns x1)) x2 x3 := by
  unfold out0_A_10
  frame_out
  rw [columns_eq, scale_at x5, scale_at x7, scale1_at x6]

/-- The third result is the array of value codes. -/
theorem out11 : out0_A_11 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = k0_pay6 (x8 (ix1 0)) (k0_pay4 (x5 (ix1 0)) (x6 (ix1 2)) x0 x4 (kvColumns x1)) := by
  unfold out0_A_11
  frame_out
  rw [columns_eq, scale_at x5, scale_at x8, scale2_at x6]

/-- The fourth result is the key codes with the heads side by side. -/
theorem out12 : out0_A_12 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = k0_pay7 (x7 (ix1 0)) (k0_pay3 (x5 (ix1 0)) (x6 (ix1 1)) x0 x4 (kvColumns x1)) x2 x3 := by
  unfold out0_A_12
  frame_out
  rw [columns_eq, scale_at x5, scale_at x7, scale1_at x6]

/-- The fifth result is the value codes with the heads side by side. -/
theorem out13 : out0_A_13 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = k0_pay8 (x8 (ix1 0)) (k0_pay4 (x5 (ix1 0)) (x6 (ix1 2)) x0 x4 (kvColumns x1)) := by
  unfold out0_A_13
  frame_out
  rw [columns_eq, scale_at x5, scale_at x8, scale2_at x6]

end Cert.ReferenceIdeal.Value

end
-- ==== Proof.Result.lean ====
module

public import proofs.«01_k».proof.Proof.Whole
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen Cert.Spec

/-! What the reference's five result arrays hold, as functions of the argument arrays. -/

variable (m : (ℓ : Loc nD τ sig) → Buf (Elt Ideal) ℓ)

/-- Every operand and result is one block. -/
theorem idx : win0_0.index t0_0 = ![0, 0] ∧ win0_1.index t0_0 = ![0, 0] ∧ win0_2.index t0_0 = ![0, 0] ∧ win0_3.index t0_0 = ![0, 0]
   ∧ win0_4.index t0_0 = ![0, 0] ∧ win0_5.index t0_0 = ![0] ∧ win0_6.index t0_0 = ![0] ∧ win0_7.index t0_0 = ![0] ∧ win0_8.index t0_0 = ![0] := by
  decide +kernel

theorem x_at (c : Dev nD) (r : Fin 5888) (k : Fin 5120) : (show FVec Ideal S5888x5120 .bf16 from iblk m c 0 t0_0) (ix2 r k)
    = (show FVec Ideal S5888x5120 .bf16 from m ((c : Thread nD τ).loc main_arg0)) (ix2 r k) := by
  blk_ext [iblk, V, idx]

theorem w_at (c : Dev nD) (k : Fin 5120) (j : Fin 6144) : (show FVec Ideal S5120x6144 .fp8e4m3 from iblk m c 1 t0_0) (ix2 k j)
    = (show FVec Ideal S5120x6144 .fp8e4m3 from m ((c : Thread nD τ).loc main_arg1)) (ix2 k j) := by
  blk_ext [iblk, V, idx]

theorem cos_at (c : Dev nD) (r : Fin 5888) (j : Fin 64) : (show FVec Ideal S5888x64 .f32 from iblk m c 2 t0_0) (ix2 r j)
    = (show FVec Ideal S5888x64 .f32 from m ((c : Thread nD τ).loc main_arg2)) (ix2 r j) := by
  blk_ext [iblk, V, idx]

theorem sin_at (c : Dev nD) (r : Fin 5888) (j : Fin 64) : (show FVec Ideal S5888x64 .f32 from iblk m c 3 t0_0) (ix2 r j)
    = (show FVec Ideal S5888x64 .f32 from m ((c : Thread nD τ).loc main_arg3)) (ix2 r j) := by
  blk_ext [iblk, V, idx]

theorem ln_at (c : Dev nD) (k : Fin 5120) : (show FVec Ideal S1x5120 .f32 from iblk m c 4 t0_0) (ix2 0 k)
    = (show FVec Ideal S5120 .f32 from m ((c : Thread nD τ).loc main_arg4)) (ix1 k) := by
  blk_simp [iblk, idx]
  entry_read
  pointwise
  all_goals blk_ext [idx]

theorem sx_at (c : Dev nD) : (show FVec Ideal S1 .f32 from iblk m c 5 t0_0) (ix1 0)
    = (show FVec Ideal S_ .f32 from m ((c : Thread nD τ).loc main_arg5)) ix0 := by
  blk_simp [iblk, idx]
  entry_read
  pointwise
  all_goals blk_ext [idx]

theorem sw_at (c : Dev nD) (k : Fin 3) : (show FVec Ideal S3 .f32 from iblk m c 6 t0_0) (ix1 k)
    = (show FVec Ideal S3 .f32 from m ((c : Thread nD τ).loc main_arg6)) (ix1 k) := by
  blk_ext [iblk, V, idx]

theorem sk_at (c : Dev nD) : (show FVec Ideal S1 .f32 from iblk m c 7 t0_0) (ix1 0)
    = (show FVec Ideal S_ .f32 from m ((c : Thread nD τ).loc main_arg7)) ix0 := by
  blk_simp [iblk, idx]
  entry_read
  pointwise
  all_goals blk_ext [idx]

theorem sv_at (c : Dev nD) : (show FVec Ideal S1 .f32 from iblk m c 8 t0_0) (ix1 0)
    = (show FVec Ideal S_ .f32 from m ((c : Thread nD τ).loc main_arg8)) ix0 := by
  blk_simp [iblk, idx]
  entry_read
  pointwise
  all_goals blk_ext [idx]

/-- The argument arrays as tables of numbers. -/
def tx (c : Dev nD) (r : Fin 5888) (k : Fin 5120) : EReal := (show FVec Ideal S5888x5120 .bf16 from m ((c : Thread nD τ).loc main_arg0)) (ix2 r k)
@[inherit_doc tx] def tw (c : Dev nD) (k : Fin 5120) (j : Fin 6144) : EReal := (show FVec Ideal S5120x6144 .fp8e4m3 from m ((c : Thread nD τ).loc main_arg1)) (ix2 k j)
@[inherit_doc tx] def tcos (c : Dev nD) (r : Fin 5888) (j : Fin 64) : EReal := (show FVec Ideal S5888x64 .f32 from m ((c : Thread nD τ).loc main_arg2)) (ix2 r j)
@[inherit_doc tx] def tsin (c : Dev nD) (r : Fin 5888) (j : Fin 64) : EReal := (show FVec Ideal S5888x64 .f32 from m ((c : Thread nD τ).loc main_arg3)) (ix2 r j)
@[inherit_doc tx] def tln (c : Dev nD) (k : Fin 5120) : EReal := (show FVec Ideal S5120 .f32 from m ((c : Thread nD τ).loc main_arg4)) (ix1 k)
@[inherit_doc tx] def tsx (c : Dev nD) : EReal := (show FVec Ideal S_ .f32 from m ((c : Thread nD τ).loc main_arg5)) ix0
@[inherit_doc tx] def tsw (c : Dev nD) (k : Fin 3) : EReal := (show FVec Ideal S3 .f32 from m ((c : Thread nD τ).loc main_arg6)) (ix1 k)
@[inherit_doc tx] def tsk (c : Dev nD) : EReal := (show FVec Ideal S_ .f32 from m ((c : Thread nD τ).loc main_arg7)) ix0
@[inherit_doc tx] def tsv (c : Dev nD) : EReal := (show FVec Ideal S_ .f32 from m ((c : Thread nD τ).loc main_arg8)) ix0

/-- The codes of row `r`. -/
theorem row_codes (c : Dev nD) (r : Fin 5888) : code (fun k => (show FVec Ideal S5888x5120 .bf16 from iblk m c 0 t0_0) (ix2 r k)) (fun k => (show FVec Ideal S1x5120 .f32 from iblk m c 4 t0_0) (ix2 0 k))
    ((show FVec Ideal S1 .f32 from iblk m c 5 t0_0) (ix1 0)) = code (tx m c r) (tln m c) (tsx m c) := by
  have hx : (fun k => (show FVec Ideal S5888x5120 .bf16 from iblk m c 0 t0_0) (ix2 r k)) = tx m c r := funext fun k => x_at m c r k
  have hl : (fun k => (show FVec Ideal S1x5120 .f32 from iblk m c 4 t0_0) (ix2 0 k)) = tln m c := funext fun k => ln_at m c k
  have hs : (show FVec Ideal S1 .f32 from iblk m c 5 t0_0) (ix1 0) = tsx m c := sx_at m c
  exact hx ▸ hl ▸ hs ▸ rfl

/-- The key codes over the operands are the key codes over the argument arrays. -/
theorem keys_entry (c : Dev nD) (r : Fin 5888) (h : Fin 8) (l : Fin 128) :
    k0_pay5 (F := Ideal) ((show FVec Ideal S1 .f32 from iblk m c 7 t0_0) (ix1 0))
      (k0_pay3 ((show FVec Ideal S1 .f32 from iblk m c 5 t0_0) (ix1 0)) ((show FVec Ideal S3 .f32 from iblk m c 6 t0_0) (ix1 1)) (iblk m c 0 t0_0) (iblk m c 4 t0_0) (kvColumns (iblk m c 1 t0_0)))
      (iblk m c 2 t0_0) (iblk m c 3 t0_0) (ix3 r h l)
    = keyAt (tx m c) (tln m c) (tw m c) (tcos m c) (tsin m c) (tsx m c) (tsw m c) (tsk m c) r h l := by
  refine (keyCode_at _ _ _ _ r h l).trans ?_
  have hk : (fun j => k0_pay3 (F := Ideal) ((show FVec Ideal S1 .f32 from iblk m c 5 t0_0) (ix1 0)) ((show FVec Ideal S3 .f32 from iblk m c 6 t0_0) (ix1 1)) (iblk m c 0 t0_0) (iblk m c 4 t0_0) (kvColumns (iblk m c 1 t0_0)) (ix3 r h j))
      = fun j : Fin 128 => proj (code (tx m c r) (tln m c) (tsx m c)) (fun k => tw m c k ⟨4096 + (h * 128 + j), by omega⟩) (tsx m c) (tsw m c 1) := funext fun j => by
    refine (key_at _ _ _ _ _ r h j).trans ?_
    have hw : (fun k => kvColumns (iblk m c 1 t0_0) (ix2 k ⟨h * 128 + j, by omega⟩)) = fun k => tw m c k ⟨4096 + (h * 128 + j), by omega⟩ := funext fun k => w_at m c k _
    have hs : (show FVec Ideal S1 .f32 from iblk m c 5 t0_0) (ix1 0) = tsx m c := sx_at m c
    have h6 : (show FVec Ideal S3 .f32 from iblk m c 6 t0_0) (ix1 1) = tsw m c 1 := sw_at m c 1
    exact congr (congr (congr (congrArg proj (row_codes m c r)) hw) hs) h6
  have hc : (fun j => (show FVec Ideal S5888x64 .f32 from iblk m c 2 t0_0) (ix2 r j)) = tcos m c r := funext fun j => cos_at m c r j
  have hi : (fun j => (show FVec Ideal S5888x64 .f32 from iblk m c 3 t0_0) (ix2 r j)) = tsin m c r := funext fun j => sin_at m c r j
  have h7 : (show FVec Ideal S1 .f32 from iblk m c 7 t0_0) (ix1 0) = tsk m c := sk_at m c
  exact congrArg clip (congr (congrArg Ideal.div (congrFun (congr (congr (congrArg rope hk) hc) hi) l)) h7)

/-- The value codes over the operands are the value codes over the argument arrays. -/
theorem values_entry (c : Dev nD) (r : Fin 5888) (h : Fin 8) (l : Fin 128) :
    k0_pay6 (F := Ideal) ((show FVec Ideal S1 .f32 from iblk m c 8 t0_0) (ix1 0))
      (k0_pay4 ((show FVec Ideal S1 .f32 from iblk m c 5 t0_0) (ix1 0)) ((show FVec Ideal S3 .f32 from iblk m c 6 t0_0) (ix1 2)) (iblk m c 0 t0_0) (iblk m c 4 t0_0) (kvColumns (iblk m c 1 t0_0))) (ix3 r h l)
    = valueAt (tx m c) (tln m c) (tw m c) (tsx m c) (tsw m c) (tsv m c) r h l := by
  refine (valueCode_at _ _ r h l).trans ?_
  have hw : (fun k => kvColumns (iblk m c 1 t0_0) (ix2 k ⟨1024 + (h * 128 + l), by omega⟩)) = fun k => tw m c k ⟨5120 + (h * 128 + l), by omega⟩ :=
    funext fun k => (w_at m c k _).trans (congrArg (tw m c k) (Fin.ext (by show 4096 + (1024 + ((h : ℕ) * 128 + l)) = 5120 + (h * 128 + l); omega)))
  have hs : (show FVec Ideal S1 .f32 from iblk m c 5 t0_0) (ix1 0) = tsx m c := sx_at m c
  have h6 : (show FVec Ideal S3 .f32 from iblk m c 6 t0_0) (ix1 2) = tsw m c 2 := sw_at m c 2
  have h8 : (show FVec Ideal S1 .f32 from iblk m c 8 t0_0) (ix1 0) = tsv m c := sv_at m c
  refine congrArg clip (congr (congrArg Ideal.div ((value_at _ _ _ _ _ r h l).trans ?_)) h8)
  exact congr (congr (congr (congrArg proj (row_codes m c r)) hw) hs) h6

/-- The first result array: the codes of every row. -/
def codesArray (c : Dev nD) : FVec Ideal S5888x5120 .fp8e4m3 := fun y => code (tx m c (y 0)) (tln m c) (tsx m c) (y 1)

/-- The second result array: the key codes by row, head and lane. -/
def keysArray (c : Dev nD) : FVec Ideal S5888x8x128 .fp8e4m3 := fun y => keyAt (tx m c) (tln m c) (tw m c) (tcos m c) (tsin m c) (tsx m c) (tsw m c) (tsk m c) (y 0) (y 1) (y 2)

/-- The third result array: the value codes by row, head and lane. -/
def valuesArray (c : Dev nD) : FVec Ideal S5888x8x128 .fp8e4m3 := fun y => valueAt (tx m c) (tln m c) (tw m c) (tsx m c) (tsw m c) (tsv m c) (y 0) (y 1) (y 2)

/-- The fourth result array: the key codes, the heads of a row side by side. -/
def keysFlat (c : Dev nD) : FVec Ideal S5888x1024 .fp8e4m3 := fun y => keyAt (tx m c) (tln m c) (tw m c) (tcos m c) (tsin m c) (tsx m c) (tsw m c) (tsk m c) (y 0) ⟨y 1 / 128, Nat.div_lt_of_lt_mul (y 1).isLt⟩ ⟨y 1 % 128, Nat.mod_lt _ (by decide)⟩

/-- The fifth result array: the value codes, the heads of a row side by side. -/
def valuesFlat (c : Dev nD) : FVec Ideal S5888x1024 .fp8e4m3 := fun y => valueAt (tx m c) (tln m c) (tw m c) (tsx m c) (tsw m c) (tsv m c) (y 0) ⟨y 1 / 128, Nat.div_lt_of_lt_mul (y 1).isLt⟩ ⟨y 1 % 128, Nat.mod_lt _ (by decide)⟩

theorem final9 (c : Dev nD) : (dats m 0 c).arrAt 9 (cfgs 0).N = codesArray m c := by
  refine (dats m 0 c).arrAt_eq_of_after_last 9 t0_0 (by decide +kernel) _ fun j => ?_
  blk_simp
  rw [after0_9]
  dsimp only [outsAt0]
  rw [out9]
  revert j
  intro (y : S5888x5120.Idx)
  exact (congrArg _ (eq_ix2 y)).trans ((codes_at _ _ _ (y 0) (y 1)).trans (congrFun (row_codes m c (y 0)) (y 1)))

theorem final10 (c : Dev nD) : (dats m 0 c).arrAt 10 (cfgs 0).N = keysArray m c := by
  refine (dats m 0 c).arrAt_eq_of_after_last 10 t0_0 (by decide +kernel) _ fun j => ?_
  blk_simp
  rw [after0_10]
  dsimp only [outsAt0]
  rw [out10]
  revert j
  intro (y : S5888x8x128.Idx)
  exact (congrArg _ (eq_ix3 y)).trans (keys_entry m c (y 0) (y 1) (y 2))

theorem final11 (c : Dev nD) : (dats m 0 c).arrAt 11 (cfgs 0).N = valuesArray m c := by
  refine (dats m 0 c).arrAt_eq_of_after_last 11 t0_0 (by decide +kernel) _ fun j => ?_
  blk_simp
  rw [after0_11]
  dsimp only [outsAt0]
  rw [out11]
  revert j
  intro (y : S5888x8x128.Idx)
  exact (congrArg _ (eq_ix3 y)).trans (values_entry m c (y 0) (y 1) (y 2))

theorem final12 (c : Dev nD) : (dats m 0 c).arrAt 12 (cfgs 0).N = keysFlat m c := by
  refine (dats m 0 c).arrAt_eq_of_after_last 12 t0_0 (by decide +kernel) _ fun j => ?_
  blk_simp
  rw [after0_12]
  dsimp only [outsAt0]
  rw [out12]
  revert j
  intro (y : S5888x1024.Idx)
  exact (congrArg _ (eq_ix2 y)).trans ((keyFlat_at _ _ _ _ (y 0) (y 1)).trans (keys_entry m c (y 0) ⟨y 1 / 128, Nat.div_lt_of_lt_mul (y 1).isLt⟩ ⟨y 1 % 128, Nat.mod_lt _ (by decide)⟩))

theorem final13 (c : Dev nD) : (dats m 0 c).arrAt 13 (cfgs 0).N = valuesFlat m c := by
  refine (dats m 0 c).arrAt_eq_of_after_last 13 t0_0 (by decide +kernel) _ fun j => ?_
  blk_simp
  rw [after0_13]
  dsimp only [outsAt0]
  rw [out13]
  revert j
  intro (y : S5888x1024.Idx)
  exact (congrArg _ (eq_ix2 y)).trans ((valueFlat_at _ _ (y 0) (y 1)).trans (values_entry m c (y 0) ⟨y 1 / 128, Nat.div_lt_of_lt_mul (y 1).isLt⟩ ⟨y 1 % 128, Nat.mod_lt _ (by decide)⟩))

end Cert.ReferenceIdeal.Value

end
-- ==== Proof.Equation.lean ====
module

public import proofs.«01_k».proof.Proof.Array
public import proofs.«01_k».proof.Proof.Result

@[expose] public section

set_option maxRecDepth 16384

noncomputable section

open Idealize.ShloMosaic Idealize.ShloMosaic.TcCoe Idealize.SL.Sem

namespace Cert.Equation

/-! On argument arrays that agree, the two programs' result arrays agree. -/

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The nine argument arrays of the two programs are equal on device `c`. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

variable {m m' c}

/-- Each table of the reference is the kernel's. -/
theorem tx_eq (h : Agree m m' c) : Cert.ReferenceIdeal.Value.tx m' c = Cert.KernelIdeal.Value.tx m c := funext fun r => funext fun k => congrFun (h.1) (ix2 r k)
@[inherit_doc tx_eq] theorem tw_eq (h : Agree m m' c) : Cert.ReferenceIdeal.Value.tw m' c = Cert.KernelIdeal.Value.tw m c := funext fun k => funext fun j => congrFun (h.2.1) (ix2 k j)
@[inherit_doc tx_eq] theorem tcos_eq (h : Agree m m' c) : Cert.ReferenceIdeal.Value.tcos m' c = Cert.KernelIdeal.Value.tcos m c := funext fun r => funext fun j => congrFun (h.2.2.1) (ix2 r j)
@[inherit_doc tx_eq] theorem tsin_eq (h : Agree m m' c) : Cert.ReferenceIdeal.Value.tsin m' c = Cert.KernelIdeal.Value.tsin m c := funext fun r => funext fun j => congrFun (h.2.2.2.1) (ix2 r j)
@[inherit_doc tx_eq] theorem tln_eq (h : Agree m m' c) : Cert.ReferenceIdeal.Value.tln m' c = Cert.KernelIdeal.Value.tln m c := funext fun k => congrFun (h.2.2.2.2.1) (ix1 k)
@[inherit_doc tx_eq] theorem tsx_eq (h : Agree m m' c) : Cert.ReferenceIdeal.Value.tsx m' c = Cert.KernelIdeal.Value.tsx m c := congrFun (h.2.2.2.2.2.1) ix0
@[inherit_doc tx_eq] theorem tsw_eq (h : Agree m m' c) : Cert.ReferenceIdeal.Value.tsw m' c = Cert.KernelIdeal.Value.tsw m c := funext fun k => congrFun (h.2.2.2.2.2.2.1) (ix1 k)
@[inherit_doc tx_eq] theorem tsk_eq (h : Agree m m' c) : Cert.ReferenceIdeal.Value.tsk m' c = Cert.KernelIdeal.Value.tsk m c := congrFun (h.2.2.2.2.2.2.2.1) ix0
@[inherit_doc tx_eq] theorem tsv_eq (h : Agree m m' c) : Cert.ReferenceIdeal.Value.tsv m' c = Cert.KernelIdeal.Value.tsv m c := congrFun (h.2.2.2.2.2.2.2.2) ix0

/-- The two arrays of codes agree. -/
theorem codesArray_eq (h : Agree m m' c) : Cert.ReferenceIdeal.Value.codesArray m' c = Cert.KernelIdeal.Value.codesArray m c := by
  unfold Cert.ReferenceIdeal.Value.codesArray Cert.KernelIdeal.Value.codesArray
  rw [tx_eq h, tln_eq h, tsx_eq h]

/-- The two arrays of key codes agree. -/
theorem keysArray_eq (h : Agree m m' c) : Cert.ReferenceIdeal.Value.keysArray m' c = Cert.KernelIdeal.Value.keysArray m c := by
  unfold Cert.ReferenceIdeal.Value.keysArray Cert.KernelIdeal.Value.keysArray
  rw [tx_eq h, tln_eq h, tw_eq h, tcos_eq h, tsin_eq h, tsx_eq h, tsw_eq h, tsk_eq h]

/-- The two arrays of value codes agree. -/
theorem valuesArray_eq (h : Agree m m' c) : Cert.ReferenceIdeal.Value.valuesArray m' c = Cert.KernelIdeal.Value.valuesArray m c := by
  unfold Cert.ReferenceIdeal.Value.valuesArray Cert.KernelIdeal.Value.valuesArray
  rw [tx_eq h, tln_eq h, tw_eq h, tsx_eq h, tsw_eq h, tsv_eq h]

/-- The two flat arrays of key codes agree. -/
theorem keysFlat_eq (h : Agree m m' c) : Cert.ReferenceIdeal.Value.keysFlat m' c = Cert.KernelIdeal.Value.keysFlat m c := by
  unfold Cert.ReferenceIdeal.Value.keysFlat Cert.KernelIdeal.Value.keysFlat
  rw [tx_eq h, tln_eq h, tw_eq h, tcos_eq h, tsin_eq h, tsx_eq h, tsw_eq h, tsk_eq h]

/-- The two flat arrays of value codes agree. -/
theorem valuesFlat_eq (h : Agree m m' c) : Cert.ReferenceIdeal.Value.valuesFlat m' c = Cert.KernelIdeal.Value.valuesFlat m c := by
  unfold Cert.ReferenceIdeal.Value.valuesFlat Cert.KernelIdeal.Value.valuesFlat
  rw [tx_eq h, tln_eq h, tw_eq h, tsx_eq h, tsw_eq h, tsv_eq h]

end Cert.Equation

end
-- ==== Proof.lean ====
/- The certificate: the frames of the three programs, the idealization of the kernel, and the equality of
   the idealized kernel with the idealized reference on every input. -/
module

public import proofs.«01_k».proof.Defs
public import proofs.«01_k».proof.Proof.Gen.Kernel
public import proofs.«01_k».proof.Proof.Gen.Kernel.Frame
public import proofs.«01_k».proof.Proof.Gen.KernelIdeal.Value
public import proofs.«01_k».proof.Proof.Gen.ReferenceIdeal.Value
public import proofs.«01_k».proof.Proof.Equation
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- On the same arguments the idealized kernel and the idealized reference end with equal results, all five of them, for every input. -/
theorem algebraic : Cert.algebraic_KernelIdeal_ReferenceIdeal := by
  pair_intro
  · run_from Cert.KernelIdeal.Value.run_blocks m g
  · run_from Cert.ReferenceIdeal.Value.run_blocks m' g'
    · exact (Cert.ReferenceIdeal.Value.final9 m' c).trans ((Cert.Equation.codesArray_eq (hagree c)).trans (Cert.KernelIdeal.Value.final9 m c).symm)
    · exact (Cert.ReferenceIdeal.Value.final10 m' c).trans ((Cert.Equation.keysArray_eq (hagree c)).trans (Cert.KernelIdeal.Value.final10 m c).symm)
    · exact (Cert.ReferenceIdeal.Value.final11 m' c).trans ((Cert.Equation.valuesArray_eq (hagree c)).trans (Cert.KernelIdeal.Value.final11 m c).symm)
    · exact (Cert.ReferenceIdeal.Value.final12 m' c).trans ((Cert.Equation.keysFlat_eq (hagree c)).trans (Cert.KernelIdeal.Value.final12 m c).symm)
    · exact (Cert.ReferenceIdeal.Value.final13 m' c).trans ((Cert.Equation.valuesFlat_eq (hagree c)).trans (Cert.KernelIdeal.Value.final13 m c).symm)

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ, trivial, algebraic⟩

end Cert.Proof

end
